-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v8)) (v4 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_v9) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v25) = v2 c
          ∧ r.2.mem ((c.tc : Thread Cert.ReferenceIdeal.nD Cert.ReferenceIdeal.τ).loc Cert.ReferenceIdeal.main_v18) = v3 c
          ∧ r.2.mem ((c.tc : Thread Cert.ReferenceIdeal.nD Cert.ReferenceIdeal.τ).loc Cert.ReferenceIdeal.main_v56) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x4096 : Shape := ⟨3, ![4, 8192, 4096]⟩
abbrev S4x8192 : Shape := ⟨2, ![4, 8192]⟩
abbrev S4096x8 : Shape := ⟨2, ![4096, 8]⟩
abbrev S4x8192x2 : Shape := ⟨3, ![4, 8192, 2]⟩
abbrev S4x2x8192 : Shape := ⟨3, ![4, 2, 8192]⟩
abbrev S4x1x8192 : Shape := ⟨3, ![4, 1, 8192]⟩
abbrev S8x4096 : Shape := ⟨2, ![8, 4096]⟩
abbrev S1x8 : Shape := ⟨2, ![1, 8]⟩
abbrev S4x8x8192 : Shape := ⟨3, ![4, 8, 8192]⟩
abbrev S1x1024x4096 : Shape := ⟨3, ![1, 1024, 4096]⟩
abbrev S1x1x1024 : Shape := ⟨3, ![1, 1, 1024]⟩
abbrev S1x2x1024 : Shape := ⟨3, ![1, 2, 1024]⟩
abbrev S1x8x1024 : Shape := ⟨3, ![1, 8, 1024]⟩
abbrev S8x128 : Shape := ⟨2, ![8, 128]⟩
abbrev S8x1 : Shape := ⟨2, ![8, 1]⟩
abbrev S1x4x2x8192 : Shape := ⟨4, ![1, 4, 2, 8192]⟩
abbrev S1 : Shape := ⟨1, ![1]⟩
abbrev S1x1x1x1 : Shape := ⟨4, ![1, 1, 1, 1]⟩
abbrev S1024x4096 : Shape := ⟨2, ![1024, 4096]⟩
abbrev S8x1024 : Shape := ⟨2, ![8, 1024]⟩
abbrev S1x1024 : Shape := ⟨2, ![1, 1024]⟩
abbrev S1024 : Shape := ⟨1, ![1024]⟩
abbrev S8 : Shape := ⟨1, ![8]⟩
abbrev S128 : Shape := ⟨1, ![128]⟩
abbrev S1x128 : Shape := ⟨2, ![1, 128]⟩
abbrev S4x8192x8 : Shape := ⟨3, ![4, 8192, 8]⟩

abbrev nBuf : Space → Nat
  | .hbm => 19
  | .vmem => 21
  | .smem => 0
  | _ => 0

abbrev bufTy : (tb : Table) → Fin (tcTables nBuf tb) → BufTy
  | .hbm, ⟨0, _⟩ => ⟨S4x8192x4096, .fp8e4m3⟩
  | .hbm, ⟨1, _⟩ => ⟨S4x8192, .f32⟩
  | .hbm, ⟨2, _⟩ => ⟨S4096x8, .bf16⟩
  | .hbm, ⟨3, _⟩ => ⟨S4x8192x2, .i32⟩
  | .hbm, ⟨4, _⟩ => ⟨S4x8192x2, .f32⟩
  | .hbm, ⟨5, _⟩ => ⟨S4x2x8192, .i32⟩
  | .hbm, ⟨6, _⟩ => ⟨S4x2x8192, .f32⟩
  | .hbm, ⟨7, _⟩ => ⟨S4x1x8192, .f32⟩
  | .hbm, ⟨8, _⟩ => ⟨S8x4096, .bf16⟩
  | .hbm, ⟨9, _⟩ => ⟨S4x1x8192, .f32⟩
  | .hbm, ⟨10, _⟩ => ⟨S4x1x8192, .f32⟩
  | .hbm, ⟨11, _⟩ => ⟨S1x8, .f32⟩
  | .hbm, ⟨12, _⟩ => ⟨S4x1x8192, .f32⟩
  | .hbm, ⟨13, _⟩ => ⟨S4x8x8192, .f32⟩
  | .hbm, ⟨14, _⟩ => ⟨S4x8192, .f32⟩
  | .hbm, ⟨15, _⟩ => ⟨S4x8192, .f32⟩
  | .hbm, ⟨16, _⟩ => ⟨S8, .f32⟩
  | .hbm, ⟨17, _⟩ => ⟨S4x8192, .f32⟩
  | .hbm, ⟨18, _⟩ => ⟨S4x8192x8, .f32⟩
  | .local _ .vmem, ⟨0, _⟩ => ⟨S4x2x8192, .i32⟩
  | .local _ .vmem, ⟨1, _⟩ => ⟨S1x1024x4096, .fp8e4m3⟩
  | .local _ .vmem, ⟨2, _⟩ => ⟨S1x1024x4096, .fp8e4m3⟩
  | .local _ .vmem, ⟨3, _⟩ => ⟨S1x1x1024, .f32⟩
  | .local _ .vmem, ⟨4, _⟩ => ⟨S1x1x1024, .f32⟩
  | .local _ .vmem, ⟨5, _⟩ => ⟨S8x4096, .bf16⟩
  | .local _ .vmem, ⟨6, _⟩ => ⟨S1x2x1024, .i32⟩
  | .local _ .vmem, ⟨7, _⟩ => ⟨S1x2x1024, .i32⟩
  | .local _ .vmem, ⟨8, _⟩ => ⟨S1x2x1024, .f32⟩
  | .local _ .vmem, ⟨9, _⟩ => ⟨S1x2x1024, .f32⟩
  | .local _ .vmem, ⟨10, _⟩ => ⟨S1x1x1024, .f32⟩
  | .local _ .vmem, ⟨11, _⟩ => ⟨S1x1x1024, .f32⟩
  | .local _ .vmem, ⟨12, _⟩ => ⟨S1x1x1024, .f32⟩
  | .local _ .vmem, ⟨13, _⟩ => ⟨S1x1x1024, .f32⟩
  | .local _ .vmem, ⟨14, _⟩ => ⟨S1x8, .f32⟩
  | .local _ .vmem, ⟨15, _⟩ => ⟨S1x1x1024, .f32⟩
  | .local _ .vmem, ⟨16, _⟩ => ⟨S1x1x1024, .f32⟩
  | .local _ .vmem, ⟨17, _⟩ => ⟨S1x8x1024, .f32⟩
  | .local _ .vmem, ⟨18, _⟩ => ⟨S1x8x1024, .f32⟩
  | .local _ .vmem, ⟨19, _⟩ => ⟨S8x128, .f32⟩
  | .local _ .vmem, ⟨20, _⟩ => ⟨S8x128, .f32⟩
  | _, _ => ⟨S4x8192x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v4_4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let v1 : BitVec 32 := Scalar.addi v0 arg1
  let c31_i32 : BitVec 32 := 31#32
  let v101 : BitVec 1 := Scalar.cmpi .eq v1 c31_i32
  let v102 : BitVec 32 := Scalar.extui v101
  let c0_i32_51 : BitVec 32 := 0#32
  let v103 : BitVec 1 := Scalar.cmpi .ne v102 c0_i32_51
  v103

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S4x2x8192 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x4096 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x2x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x8 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S4x8192x4096 : Shape := ⟨3, ![4, 8192, 4096]⟩
abbrev S4x8192 : Shape := ⟨2, ![4, 8192]⟩
abbrev S4096x8 : Shape := ⟨2, ![4096, 8]⟩
abbrev S4x8192x2 : Shape := ⟨3, ![4, 8192, 2]⟩
abbrev S4x8192x2x1 : Shape := ⟨4, ![4, 8192, 2, 1]⟩
abbrev S8 : Shape := ⟨1, ![8]⟩
abbrev S1x1x1x8 : Shape := ⟨4, ![1, 1, 1, 8]⟩
abbrev S4x8192x2x8 : Shape := ⟨4, ![4, 8192, 2, 8]⟩
abbrev S_ : Shape := ⟨0, ![]⟩
abbrev S4x8192x8 : Shape := ⟨3, ![4, 8192, 8]⟩
abbrev S4x8192x1 : Shape := ⟨3, ![4, 8192, 1]⟩
abbrev S1x1x8 : Shape := ⟨3, ![1, 1, 8]⟩

abbrev nBuf : Space → Nat
  | .hbm => 78
  | .vmem => 2
  | .smem => 0
  | _ => 0

abbrev bufTy : (tb : Table) → Fin (tcTables nBuf tb) → BufTy
  | .hbm, ⟨0, _⟩ => ⟨S4x8192x4096, .fp8e4m3⟩
  | .hbm, ⟨1, _⟩ => ⟨S4x8192, .f32⟩
  | .hbm, ⟨2, _⟩ => ⟨S4096x8, .bf16⟩
  | .hbm, ⟨3, _⟩ => ⟨S4x8192x2, .i32⟩
  | .hbm, ⟨4, _⟩ => ⟨S4x8192x2, .f32⟩
  | .hbm, ⟨5, _⟩ => ⟨S4x8192x4096, .bf16⟩
  | .hbm, ⟨6, _⟩ => ⟨S4x8192x2x1, .i32⟩
  | .hbm, ⟨7, _⟩ => ⟨S8, .i32⟩
  | .hbm, ⟨8, _⟩ => ⟨S1x1x1x8, .i32⟩
  | .hbm, ⟨9, _⟩ => ⟨S4x8192x2x8, .i32⟩
  | .hbm, ⟨10, _⟩ => ⟨S4x8192x2x8, .i32⟩
  | .hbm, ⟨11, _⟩ => ⟨S4x8192x2x8, .i1⟩
  | .hbm, ⟨12, _⟩ => ⟨S4x8192x2x8, .i32⟩
  | .hbm, ⟨13, _⟩ => ⟨S_, .i32⟩
  | .hbm, ⟨14, _⟩ => ⟨S8, .i32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S4x8192x8, .f32⟩
  | .hbm, ⟨20, _⟩ => ⟨S4x8192x1, .f32⟩
  | .hbm, ⟨21, _⟩ => ⟨S4x8192x8, .f32⟩
  | .hbm, ⟨22, _⟩ => ⟨S4x8192x8, .f32⟩
  | .hbm, ⟨23, _⟩ => ⟨S4x8192x8, .f32⟩
  | .hbm, ⟨24, _⟩ => ⟨S_, .f32⟩
  | .hbm, ⟨25, _⟩ => ⟨S4x8192, .f32⟩
  | .hbm, ⟨26, _⟩ => ⟨S4x8192, .f32⟩
  | .hbm, ⟨27, _⟩ => ⟨S4x8192x1, .f32⟩
  | .hbm, ⟨28, _⟩ => ⟨S4x8192x8, .f32⟩
  | .hbm, ⟨29, _⟩ => ⟨S4x8192x8, .f32⟩
  | .hbm, ⟨30, _⟩ => ⟨S4x8192x8, .f32⟩
  | .hbm, ⟨31, _⟩ => ⟨S_, .f32⟩
  | .hbm, ⟨32, _⟩ => ⟨S8, .f32⟩
  | .hbm, ⟨33, _⟩ => ⟨S_, .f32⟩
  | .hbm, ⟨34, _⟩ => ⟨S8, .f32⟩
  | .hbm, ⟨35, _⟩ => ⟨S8, .f32⟩
  | .hbm, ⟨36, _⟩ => ⟨S1x1x8, .f32⟩
  | .hbm, ⟨37, _⟩ => ⟨S4x8192x8, .f32⟩
  | .hbm, ⟨38, _⟩ => ⟨S4x8192x8, .f32⟩
  | .hbm, ⟨39, _⟩ => ⟨S_, .f32⟩
  | .hbm, ⟨40, _⟩ => ⟨S4x8192, .f32⟩
  | .hbm, ⟨41, _⟩ => ⟨S_, .f32⟩
  | .hbm, ⟨42, _⟩ => ⟨S4x8192, .f32⟩
  | .hbm, ⟨43, _⟩ => ⟨S4x8192, .f32⟩
  | .hbm, ⟨44, _⟩ => ⟨S4x8192, .f32⟩
  | .hbm, ⟨45, _⟩ => ⟨S_, .f32⟩
  | .hbm, ⟨46, _⟩ => ⟨S4x8192, .f32⟩
  | .hbm, ⟨47, _⟩ => ⟨S4x8192, .f32⟩
  | .hbm, ⟨48, _⟩ => ⟨S4x8192x2x1, .f32⟩
  | .hbm, ⟨49, _⟩ => ⟨S_, .f32⟩
  | .hbm, ⟨50, _⟩ => ⟨S_, .f32⟩
  | .hbm, ⟨51, _⟩ => ⟨S4x8192x2x8, .f32⟩
  | .hbm, ⟨52, _⟩ => ⟨S4x8192x2x8, .f32⟩
  | .hbm, ⟨53, _⟩ => ⟨S4x8192x2x8, .f32⟩
  | .hbm, ⟨54, _⟩ => ⟨S_, .f32⟩
  | .hbm, ⟨55, _⟩ => ⟨S4x8192x8, .f32⟩
  | .hbm, ⟨56, _⟩ => ⟨S4x8192x8, .f32⟩
  | .hbm, ⟨57, _⟩ => ⟨S_, .f32⟩
  | .hbm, ⟨58, _⟩ => ⟨S4x8192, .f32⟩
  | .hbm, ⟨59, _⟩ => ⟨S4x8192x1, .f32⟩
  | .hbm, ⟨60, _⟩ => ⟨S1x1x8, .f32⟩
  | .hbm, ⟨61, _⟩ => ⟨S4x8192x8, .f32⟩
  | .hbm, ⟨62, _⟩ => ⟨S4x8192x8, .f32⟩
  | .hbm, ⟨63, _⟩ => ⟨S4x8192x8, .f32⟩
  | .hbm, ⟨64, _⟩ => ⟨S_, .f32⟩
  | .hbm, ⟨65, _⟩ => ⟨S4x8192x8, .f32⟩
  | .hbm, ⟨66, _⟩ => ⟨S4x8192x8, .f32⟩
  | .hbm, ⟨67, _⟩ => ⟨S4x8192x1, .f32⟩
  | .hbm, ⟨68, _⟩ => ⟨S_, .f32⟩
  | .hbm, ⟨69, _⟩ => ⟨S4x8192x1, .f32⟩
  | .hbm, ⟨70, _⟩ => ⟨S4x8192x1, .f32⟩
  | .hbm, ⟨71, _⟩ => ⟨S4x8192x8, .f32⟩
  | .hbm, ⟨72, _⟩ => ⟨S4x8192x8, .f32⟩
  | .hbm, ⟨73, _⟩ => ⟨S4x8192x1, .f32⟩
  | .hbm, ⟨74, _⟩ => ⟨S4x8192x8, .f32⟩
  | .hbm, ⟨75, _⟩ => ⟨S4x8192x8, .f32⟩
  | .hbm, ⟨76, _⟩ => ⟨S4x8192x8, .f32⟩
  | .hbm, ⟨77, _⟩ => ⟨S4x8192x8, .f32⟩
  | .local _ .vmem, ⟨0, _⟩ => ⟨S4x8192x4096, .fp8e4m3⟩
  | .local _ .vmem, ⟨1, _⟩ => ⟨S4x8192x4096, .bf16⟩
  | _, _ => ⟨S4x8192x4096, .fp8e4m3⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_call0_v0 : Ref sig .tc := ⟨.hbm, 50, rfl⟩
abbrev main_call0_v1 : Ref sig .tc := ⟨.hbm, 51, rfl⟩
abbrev main_call0_v2 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_cst_8 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_9 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4x8192x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x8192x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Pieces.lean ====
/- What one grid point of the kernel leaves behind, as payloads of its input blocks.

   For each of the three cases of the body (the first grid point, a middle point, the last point), every output block
   and both scratch buffers are read off the run's stores as the named payloads of the printed body, over whole blocks. -/
module

public import proofs.«01_k».proof.Proof.Gen.KernelIdeal.Frame
public import Idealize.ShloMosaic.Lib.Pipeline.Value
public import Idealize.ShloMosaic.Lib.Tactic

@[expose] public section

noncomputable section

open Idealize.ShloMosaic Idealize.ShloMosaic.TcCoe Idealize.SL.Sem

namespace Cert.KernelIdeal.Pieces

open Cert.KernelIdeal Cert.KernelIdeal.Gen

variable {F : FTy → Type} [FloatOps F]

/-- Offsets written as two zeros are the zero offsets. -/
theorem hz2 : (![0, 0] : Fin 2 → Nat) = fun _ => 0 := funext fun a => by fin_cases a <;> rfl

/-- Offsets written as three zeros are the zero offsets. -/
theorem hz3 : (![0, 0, 0] : Fin 3 → Nat) = fun _ => 0 := funext fun a => by fin_cases a <;> rfl

/-- The first column of the eight by 128 scratch that holds the expert frequencies. -/
def col (f : Vec F S8x128 .f32) : Vec F S8x1 .f32 :=
  View.ld f (Rect.unit (s := S8x128) ![0, 0] S8x1.size inb_S8x128_S8x1_0_0)

/-- Reading the first column of the frequency scratch right after it was stored whole gives that column of what was stored. -/
theorem readCov_col {κ : Kind} {sp : Space} (v : View sig κ sp S8x128 .f32) (w : Vec F S8x128 .f32)
    (inb : ∀ a, (![0, 0] : Fin 2 → Nat) a + S8x128.size a ≤ S8x128.size a)
    (inb' : ∀ a, (![0, 0] : Fin 2 → Nat) a + S8x1.size a ≤ S8x128.size a) :
    v.readCov [(⟨Rect.unit (s := S8x128) ![0, 0] S8x128.size inb, w⟩ : View.Piece (Elt F) S8x128 .f32)]
      (Rect.unit (s := S8x128) ![0, 0] S8x1.size inb').toLoadRect
    = View.ld w (Rect.unit (s := S8x128) ![0, 0] S8x1.size inb_S8x128_S8x1_0_0) := by
  rw [View.readCov_eq_canon_ld _ _ _ (fun y => ⟨_, List.mem_singleton_self _, View.mem_set_unit_zero hz2 inb y⟩),
    View.canon_unit_zero hz2]

/-- Row `0` of a block of expert indices (the first choice of every token of the block). -/
def ids0 (x : Vec F S1x2x1024 .i32) : Vec F S1x1x1024 .i32 :=
  View.ld x (Rect.unit (s := S1x2x1024) ![0, 0, 0] S1x1x1024.size inb_S1x2x1024_S1x1x1024_0_0_0)

/-- Row `1` of a block of expert indices (the second choice of every token of the block). -/
def ids1 (x : Vec F S1x2x1024 .i32) : Vec F S1x1x1024 .i32 :=
  View.ld x (Rect.unit (s := S1x2x1024) ![0, 1, 0] S1x1x1024.size inb_S1x2x1024_S1x1x1024_0_1_0)

/-- Row `0` of a block of gate gradients. -/
def dg0 (x : Vec F S1x2x1024 .f32) : Vec F S1x1x1024 .f32 :=
  View.ld x (Rect.unit (s := S1x2x1024) ![0, 0, 0] S1x1x1024.size inb_S1x2x1024_S1x1x1024_0_0_0)

/-- Row `1` of a block of gate gradients. -/
def dg1 (x : Vec F S1x2x1024 .f32) : Vec F S1x1x1024 .f32 :=
  View.ld x (Rect.unit (s := S1x2x1024) ![0, 1, 0] S1x1x1024.size inb_S1x2x1024_S1x1x1024_0_1_0)

/-- The frequency scratch the first grid point fills, from the whole array of expert indices. -/
def freq (x : Vec F S4x2x8192 .i32) : Vec F S8x128 .f32 :=
  k0_pay7 (F := F) (k0_pay6 (k0_pay3 x) (iota .tc S8x1 32 [0] iota_S8x1_d0_w32) (k0_pay4 x)
    (extractAt ![0, 0, 0, 0] (k0_pay5 x) inpos_S1x1x1x1_p0_0_0_0) 3#32)

/-- The block of logit gradients a point stores, over the frequency scratch `f` it finds. -/
def dlogits (f : Vec F S8x128 .f32) (x1 : Vec F S1x1024x4096 .fp8e4m3) (x2 : Vec F S1x1x1024 .f32) (x3 : Vec F S8x4096 .bf16)
    (x4 : Vec F S1x2x1024 .i32) (x5 : Vec F S1x2x1024 .f32) : FVec F S1x8x1024 .f32 :=
  k0_pay1 (col f) (k0_pay10 x3 x1 x2) (k0_pay11 x3 x1 x2) (k0_pay14 (col f) (k0_pay11 x3 x1 x2))
    (iota .tc S8x1024 32 [0] iota_S8x1024_d0_w32) (k0_pay18 (F := F)) (k0_pay19 (ids0 x4) (dg0 x5)) (ids1 x4) (dg1 x5)

/-- The first grid point leaves the auxiliary-loss block at its payload. -/
theorem out0_A_6_eq (c : Dev nD) (i : grid0.Coords) (a2 : Memref sig .tc .vmem S4x2x8192 .i32) (h2 : a2.IsWhole) (a3 : Memref sig .tc .vmem S1x1024x4096 .fp8e4m3) (h3 : a3.IsWhole) (a4 : Memref sig .tc .vmem S1x1x1024 .f32) (h4 : a4.IsWhole) (a5 : Memref sig .tc .vmem S8x4096 .bf16) (h5 : a5.IsWhole) (a6 : Memref sig .tc .vmem S1x2x1024 .i32) (h6 : a6.IsWhole) (a7 : Memref sig .tc .vmem S1x2x1024 .f32) (h7 : a7.IsWhole) (a8 : Memref sig .tc .vmem S1x1x1024 .f32) (h8 : a8.IsWhole) (a9 : Memref sig .tc .vmem S1x1x1024 .f32) (h9 : a9.IsWhole) (a10 : Memref sig .tc .vmem S1x8 .f32) (h10 : a10.IsWhole) (a11 : Memref sig .tc .vmem S1x1x1024 .f32) (h11 : a11.IsWhole) (a12 : Memref sig .tc .vmem S1x8x1024 .f32) (h12 : a12.IsWhole) (a13 : Memref sig .tc .vmem S8x128 .f32) (h13 : a13.IsWhole) (a14 : Memref sig .tc .vmem S8x128 .f32) (h14 : a14.IsWhole) (hc0 : cond0_0 i) (hc1 : ¬cond0_1 i)
    (x0 : Vec F S4x2x8192 .i32) (x1 : Vec F S1x1024x4096 .fp8e4m3) (x2 : Vec F S1x1x1024 .f32) (x3 : Vec F S8x4096 .bf16) (x4 : Vec F S1x2x1024 .i32) (x5 : Vec F S1x2x1024 .f32) :
    out0_A_6 c i a2 h2 a3 h3 a4 h4 a5 h5 a6 h6 a7 h7 a8 h8 a9 h9 a10 h10 a11 h11 a12 h12 a13 h13 a14 h14 hc0 hc1 x0 x1 x2 x3 x4 x5 = k0_pay15 (col (freq x0)) (k0_pay11 x3 x1 x2) := by
  unfold out0_A_6
  rw [View.read_writes_eq_canon _ _ _ (cover0_A_6 c i a2 h2 a3 h3 a4 h4 a5 h5 a6 h6 a7 h7 a8 h8 a9 h9 a10 h10 a11 h11 a12 h12 a13 h13 a14 h14 hc0 hc1 x0 x1 x2 x3 x4 x5)]
  unfold kernelRun0_A
  dsimp only
  sl_unfold_words
  rw [View.canon_cons_unit_zero (S := S1x1x1024) hz3]
  simp only [View.readAt_eq_ld, h2.read_unread, h3.read_unread, h4.read_unread, h5.read_unread, h6.read_unread, h7.read_unread, View.ld_unit_zero (S := S8x4096) hz2, View.ld_unit_zero (S := S1x1024x4096) hz3,
    View.ld_unit_zero (S := S1x1x1024) hz3, View.ld_unit_zero (S := S8x128) hz2, View.ld_unit_zero (S := S4x2x8192) hz3, View.readCov_unit_zero (S := S8x128) _ hz2]
  rw [readCov_col]
  rfl

/-- The first grid point leaves the z-loss block at its payload. -/
theorem out0_A_7_eq (c : Dev nD) (i : grid0.Coords) (a2 : Memref sig .tc .vmem S4x2x8192 .i32) (h2 : a2.IsWhole) (a3 : Memref sig .tc .vmem S1x1024x4096 .fp8e4m3) (h3 : a3.IsWhole) (a4 : Memref sig .tc .vmem S1x1x1024 .f32) (h4 : a4.IsWhole) (a5 : Memref sig .tc .vmem S8x4096 .bf16) (h5 : a5.IsWhole) (a6 : Memref sig .tc .vmem S1x2x1024 .i32) (h6 : a6.IsWhole) (a7 : Memref sig .tc .vmem S1x2x1024 .f32) (h7 : a7.IsWhole) (a8 : Memref sig .tc .vmem S1x1x1024 .f32) (h8 : a8.IsWhole) (a9 : Memref sig .tc .vmem S1x1x1024 .f32) (h9 : a9.IsWhole) (a10 : Memref sig .tc .vmem S1x8 .f32) (h10 : a10.IsWhole) (a11 : Memref sig .tc .vmem S1x1x1024 .f32) (h11 : a11.IsWhole) (a12 : Memref sig .tc .vmem S1x8x1024 .f32) (h12 : a12.IsWhole) (a13 : Memref sig .tc .vmem S8x128 .f32) (h13 : a13.IsWhole) (a14 : Memref sig .tc .vmem S8x128 .f32) (h14 : a14.IsWhole) (hc0 : cond0_0 i) (hc1 : ¬cond0_1 i)
    (x0 : Vec F S4x2x8192 .i32) (x1 : Vec F S1x1024x4096 .fp8e4m3) (x2 : Vec F S1x1x1024 .f32) (x3 : Vec F S8x4096 .bf16) (x4 : Vec F S1x2x1024 .i32) (x5 : Vec F S1x2x1024 .f32) :
    out0_A_7 c i a2 h2 a3 h3 a4 h4 a5 h5 a6 h6 a7 h7 a8 h8 a9 h9 a10 h10 a11 h11 a12 h12 a13 h13 a14 h14 hc0 hc1 x0 x1 x2 x3 x4 x5 = k0_pay16 (k0_pay10 x3 x1 x2) := by
  unfold out0_A_7
  rw [View.read_writes_eq_canon _ _ _ (cover0_A_7 c i a2 h2 a3 h3 a4 h4 a5 h5 a6 h6 a7 h7 a8 h8 a9 h9 a10 h10 a11 h11 a12 h12 a13 h13 a14 h14 hc0 hc1 x0 x1 x2 x3 x4 x5)]
  unfold kernelRun0_A
  dsimp only
  sl_unfold_words
  rw [View.canon_cons_unit_zero (S := S1x1x1024) hz3]
  simp only [View.readAt_eq_ld, h2.read_unread, h3.read_unread, h4.read_unread, h5.read_unread, h6.read_unread, h7.read_unread, View.ld_unit_zero (S := S8x4096) hz2, View.ld_unit_zero (S := S1x1024x4096) hz3,
    View.ld_unit_zero (S := S1x1x1024) hz3, View.ld_unit_zero (S := S8x128) hz2, View.ld_unit_zero (S := S4x2x8192) hz3, View.readCov_unit_zero (S := S8x128) _ hz2]

/-- The first grid point leaves the log-sum-exp block at its payload. -/
theorem out0_A_9_eq (c : Dev nD) (i : grid0.Coords) (a2 : Memref sig .tc .vmem S4x2x8192 .i32) (h2 : a2.IsWhole) (a3 : Memref sig .tc .vmem S1x1024x4096 .fp8e4m3) (h3 : a3.IsWhole) (a4 : Memref sig .tc .vmem S1x1x1024 .f32) (h4 : a4.IsWhole) (a5 : Memref sig .tc .vmem S8x4096 .bf16) (h5 : a5.IsWhole) (a6 : Memref sig .tc .vmem S1x2x1024 .i32) (h6 : a6.IsWhole) (a7 : Memref sig .tc .vmem S1x2x1024 .f32) (h7 : a7.IsWhole) (a8 : Memref sig .tc .vmem S1x1x1024 .f32) (h8 : a8.IsWhole) (a9 : Memref sig .tc .vmem S1x1x1024 .f32) (h9 : a9.IsWhole) (a10 : Memref sig .tc .vmem S1x8 .f32) (h10 : a10.IsWhole) (a11 : Memref sig .tc .vmem S1x1x1024 .f32) (h11 : a11.IsWhole) (a12 : Memref sig .tc .vmem S1x8x1024 .f32) (h12 : a12.IsWhole) (a13 : Memref sig .tc .vmem S8x128 .f32) (h13 : a13.IsWhole) (a14 : Memref sig .tc .vmem S8x128 .f32) (h14 : a14.IsWhole) (hc0 : cond0_0 i) (hc1 : ¬cond0_1 i)
    (x0 : Vec F S4x2x8192 .i32) (x1 : Vec F S1x1024x4096 .fp8e4m3) (x2 : Vec F S1x1x1024 .f32) (x3 : Vec F S8x4096 .bf16) (x4 : Vec F S1x2x1024 .i32) (x5 : Vec F S1x2x1024 .f32) :
    out0_A_9 c i a2 h2 a3 h3 a4 h4 a5 h5 a6 h6 a7 h7 a8 h8 a9 h9 a10 h10 a11 h11 a12 h12 a13 h13 a14 h14 hc0 hc1 x0 x1 x2 x3 x4 x5 = k0_pay17 (k0_pay10 x3 x1 x2) := by
  unfold out0_A_9
  rw [View.read_writes_eq_canon _ _ _ (cover0_A_9 c i a2 h2 a3 h3 a4 h4 a5 h5 a6 h6 a7 h7 a8 h8 a9 h9 a10 h10 a11 h11 a12 h12 a13 h13 a14 h14 hc0 hc1 x0 x1 x2 x3 x4 x5)]
  unfold kernelRun0_A
  dsimp only
  sl_unfold_words
  rw [View.canon_cons_unit_zero (S := S1x1x1024) hz3]
  simp only [View.readAt_eq_ld, h2.read_unread, h3.read_unread, h4.read_unread, h5.read_unread, h6.read_unread, h7.read_unread, View.ld_unit_zero (S := S8x4096) hz2, View.ld_unit_zero (S := S1x1024x4096) hz3,
    View.ld_unit_zero (S := S1x1x1024) hz3, View.ld_unit_zero (S := S8x128) hz2, View.ld_unit_zero (S := S4x2x8192) hz3, View.readCov_unit_zero (S := S8x128) _ hz2]

/-- The first grid point leaves the logit-gradient block at its payload. -/
theorem out0_A_10_eq (c : Dev nD) (i : grid0.Coords) (a2 : Memref sig .tc .vmem S4x2x8192 .i32) (h2 : a2.IsWhole) (a3 : Memref sig .tc .vmem S1x1024x4096 .fp8e4m3) (h3 : a3.IsWhole) (a4 : Memref sig .tc .vmem S1x1x1024 .f32) (h4 : a4.IsWhole) (a5 : Memref sig .tc .vmem S8x4096 .bf16) (h5 : a5.IsWhole) (a6 : Memref sig .tc .vmem S1x2x1024 .i32) (h6 : a6.IsWhole) (a7 : Memref sig .tc .vmem S1x2x1024 .f32) (h7 : a7.IsWhole) (a8 : Memref sig .tc .vmem S1x1x1024 .f32) (h8 : a8.IsWhole) (a9 : Memref sig .tc .vmem S1x1x1024 .f32) (h9 : a9.IsWhole) (a10 : Memref sig .tc .vmem S1x8 .f32) (h10 : a10.IsWhole) (a11 : Memref sig .tc .vmem S1x1x1024 .f32) (h11 : a11.IsWhole) (a12 : Memref sig .tc .vmem S1x8x1024 .f32) (h12 : a12.IsWhole) (a13 : Memref sig .tc .vmem S8x128 .f32) (h13 : a13.IsWhole) (a14 : Memref sig .tc .vmem S8x128 .f32) (h14 : a14.IsWhole) (hc0 : cond0_0 i) (hc1 : ¬cond0_1 i)
    (x0 : Vec F S4x2x8192 .i32) (x1 : Vec F S1x1024x4096 .fp8e4m3) (x2 : Vec F S1x1x1024 .f32) (x3 : Vec F S8x4096 .bf16) (x4 : Vec F S1x2x1024 .i32) (x5 : Vec F S1x2x1024 .f32) :
    out0_A_10 c i a2 h2 a3 h3 a4 h4 a5 h5 a6 h6 a7 h7 a8 h8 a9 h9 a10 h10 a11 h11 a12 h12 a13 h13 a14 h14 hc0 hc1 x0 x1 x2 x3 x4 x5 = dlogits (freq x0) x1 x2 x3 x4 x5 := by
  unfold out0_A_10
  rw [View.read_writes_eq_canon _ _ _ (cover0_A_10 c i a2 h2 a3 h3 a4 h4 a5 h5 a6 h6 a7 h7 a8 h8 a9 h9 a10 h10 a11 h11 a12 h12 a13 h13 a14 h14 hc0 hc1 x0 x1 x2 x3 x4 x5)]
  unfold kernelRun0_A
  dsimp only
  sl_unfold_words
  rw [View.canon_cons_unit_zero (S := S1x8x1024) hz3]
  simp only [View.readAt_eq_ld, h2.read_unread, h3.read_unread, h4.read_unread, h5.read_unread, h6.read_unread, h7.read_unread, View.ld_unit_zero (S := S8x4096) hz2, View.ld_unit_zero (S := S1x1024x4096) hz3,
    View.ld_unit_zero (S := S1x1x1024) hz3, View.ld_unit_zero (S := S8x128) hz2, View.ld_unit_zero (S := S4x2x8192) hz3, View.readCov_unit_zero (S := S8x128) _ hz2]
  rw [readCov_col]
  rfl

/-- The first grid point leaves the frequency scratch at `freq x0`. -/
theorem sout0_A_0_eq (c : Dev nD) (i : grid0.Coords) (a2 : Memref sig .tc .vmem S4x2x8192 .i32) (h2 : a2.IsWhole) (a3 : Memref sig .tc .vmem S1x1024x4096 .fp8e4m3) (h3 : a3.IsWhole) (a4 : Memref sig .tc .vmem S1x1x1024 .f32) (h4 : a4.IsWhole) (a5 : Memref sig .tc .vmem S8x4096 .bf16) (h5 : a5.IsWhole) (a6 : Memref sig .tc .vmem S1x2x1024 .i32) (h6 : a6.IsWhole) (a7 : Memref sig .tc .vmem S1x2x1024 .f32) (h7 : a7.IsWhole) (a8 : Memref sig .tc .vmem S1x1x1024 .f32) (h8 : a8.IsWhole) (a9 : Memref sig .tc .vmem S1x1x1024 .f32) (h9 : a9.IsWhole) (a10 : Memref sig .tc .vmem S1x8 .f32) (h10 : a10.IsWhole) (a11 : Memref sig .tc .vmem S1x1x1024 .f32) (h11 : a11.IsWhole) (a12 : Memref sig .tc .vmem S1x8x1024 .f32) (h12 : a12.IsWhole) (a13 : Memref sig .tc .vmem S8x128 .f32) (h13 : a13.IsWhole) (a14 : Memref sig .tc .vmem S8x128 .f32) (h14 : a14.IsWhole) (hc0 : cond0_0 i) (hc1 : ¬cond0_1 i)
    (x0 : Vec F S4x2x8192 .i32) (x1 : Vec F S1x1024x4096 .fp8e4m3) (x2 : Vec F S1x1x1024 .f32) (x3 : Vec F S8x4096 .bf16) (x4 : Vec F S1x2x1024 .i32) (x5 : Vec F S1x2x1024 .f32) :
    sout0_A_0 c i a2 h2 a3 h3 a4 h4 a5 h5 a6 h6 a7 h7 a8 h8 a9 h9 a10 h10 a11 h11 a12 h12 a13 h13 a14 h14 hc0 hc1 x0 x1 x2 x3 x4 x5 = freq x0 := by
  unfold sout0_A_0
  rw [View.read_writes_eq_canon _ _ _ (scover0_A_0 c i a2 h2 a3 h3 a4 h4 a5 h5 a6 h6 a7 h7 a8 h8 a9 h9 a10 h10 a11 h11 a12 h12 a13 h13 a14 h14 hc0 hc1 x0 x1 x2 x3 x4 x5)]
  unfold kernelRun0_A
  dsimp only
  sl_unfold_words
  rw [View.canon_cons_unit_zero (S := S8x128) hz2]
  simp only [View.readAt_eq_ld, h2.read_unread, h3.read_unread, h4.read_unread, h5.read_unread, h6.read_unread, h7.read_unread, View.ld_unit_zero (S := S8x4096) hz2, View.ld_unit_zero (S := S1x1024x4096) hz3,
    View.ld_unit_zero (S := S1x1x1024) hz3, View.ld_unit_zero (S := S8x128) hz2, View.ld_unit_zero (S := S4x2x8192) hz3, View.readCov_unit_zero (S := S8x128) _ hz2]
  rfl

/-- The first grid point adds its row sums to the probability scratch. -/
theorem sout0_A_1_eq (c : Dev nD) (i : grid0.Coords) (a2 : Memref sig .tc .vmem S4x2x8192 .i32) (h2 : a2.IsWhole) (a3 : Memref sig .tc .vmem S1x1024x4096 .fp8e4m3) (h3 : a3.IsWhole) (a4 : Memref sig .tc .vmem S1x1x1024 .f32) (h4 : a4.IsWhole) (a5 : Memref sig .tc .vmem S8x4096 .bf16) (h5 : a5.IsWhole) (a6 : Memref sig .tc .vmem S1x2x1024 .i32) (h6 : a6.IsWhole) (a7 : Memref sig .tc .vmem S1x2x1024 .f32) (h7 : a7.IsWhole) (a8 : Memref sig .tc .vmem S1x1x1024 .f32) (h8 : a8.IsWhole) (a9 : Memref sig .tc .vmem S1x1x1024 .f32) (h9 : a9.IsWhole) (a10 : Memref sig .tc .vmem S1x8 .f32) (h10 : a10.IsWhole) (a11 : Memref sig .tc .vmem S1x1x1024 .f32) (h11 : a11.IsWhole) (a12 : Memref sig .tc .vmem S1x8x1024 .f32) (h12 : a12.IsWhole) (a13 : Memref sig .tc .vmem S8x128 .f32) (h13 : a13.IsWhole) (a14 : Memref sig .tc .vmem S8x128 .f32) (h14 : a14.IsWhole) (hc0 : cond0_0 i) (hc1 : ¬cond0_1 i)
    (x0 : Vec F S4x2x8192 .i32) (x1 : Vec F S1x1024x4096 .fp8e4m3) (x2 : Vec F S1x1x1024 .f32) (x3 : Vec F S8x4096 .bf16) (x4 : Vec F S1x2x1024 .i32) (x5 : Vec F S1x2x1024 .f32) :
    sout0_A_1 c i a2 h2 a3 h3 a4 h4 a5 h5 a6 h6 a7 h7 a8 h8 a9 h9 a10 h10 a11 h11 a12 h12 a13 h13 a14 h14 hc0 hc1 x0 x1 x2 x3 x4 x5 = k0_pay13 (k0_pay8 (F := F)) (k0_pay12 x3 x1 x2) := by
  unfold sout0_A_1
  rw [View.read_writes_eq_canon _ _ _ (scover0_A_1 c i a2 h2 a3 h3 a4 h4 a5 h5 a6 h6 a7 h7 a8 h8 a9 h9 a10 h10 a11 h11 a12 h12 a13 h13 a14 h14 hc0 hc1 x0 x1 x2 x3 x4 x5)]
  unfold kernelRun0_A
  dsimp only
  sl_unfold_words
  rw [View.canon_cons_unit_zero (S := S8x128) hz2]
  simp only [View.readAt_eq_ld, h2.read_unread, h3.read_unread, h4.read_unread, h5.read_unread, h6.read_unread, h7.read_unread, View.ld_unit_zero (S := S8x4096) hz2, View.ld_unit_zero (S := S1x1024x4096) hz3,
    View.ld_unit_zero (S := S1x1x1024) hz3, View.ld_unit_zero (S := S8x128) hz2, View.ld_unit_zero (S := S4x2x8192) hz3, View.readCov_unit_zero (S := S8x128) _ hz2]

/-- The middle grid point leaves the auxiliary-loss block at its payload. -/
theorem out0_B_6_eq (c : Dev nD) (i : grid0.Coords) (a2 : Memref sig .tc .vmem S4x2x8192 .i32) (h2 : a2.IsWhole) (a3 : Memref sig .tc .vmem S1x1024x4096 .fp8e4m3) (h3 : a3.IsWhole) (a4 : Memref sig .tc .vmem S1x1x1024 .f32) (h4 : a4.IsWhole) (a5 : Memref sig .tc .vmem S8x4096 .bf16) (h5 : a5.IsWhole) (a6 : Memref sig .tc .vmem S1x2x1024 .i32) (h6 : a6.IsWhole) (a7 : Memref sig .tc .vmem S1x2x1024 .f32) (h7 : a7.IsWhole) (a8 : Memref sig .tc .vmem S1x1x1024 .f32) (h8 : a8.IsWhole) (a9 : Memref sig .tc .vmem S1x1x1024 .f32) (h9 : a9.IsWhole) (a10 : Memref sig .tc .vmem S1x8 .f32) (h10 : a10.IsWhole) (a11 : Memref sig .tc .vmem S1x1x1024 .f32) (h11 : a11.IsWhole) (a12 : Memref sig .tc .vmem S1x8x1024 .f32) (h12 : a12.IsWhole) (a13 : Memref sig .tc .vmem S8x128 .f32) (h13 : a13.IsWhole) (a14 : Memref sig .tc .vmem S8x128 .f32) (h14 : a14.IsWhole) (hc0 : ¬cond0_0 i) (hc1 : ¬cond0_1 i)
    (x0 : Vec F S4x2x8192 .i32) (x1 : Vec F S1x1024x4096 .fp8e4m3) (x2 : Vec F S1x1x1024 .f32) (x3 : Vec F S8x4096 .bf16) (x4 : Vec F S1x2x1024 .i32) (x5 : Vec F S1x2x1024 .f32) (xs0 : Vec F S8x128 .f32) (xs1 : Vec F S8x128 .f32) :
    out0_B_6 c i a2 h2 a3 h3 a4 h4 a5 h5 a6 h6 a7 h7 a8 h8 a9 h9 a10 h10 a11 h11 a12 h12 a13 h13 a14 h14 hc0 hc1 x0 x1 x2 x3 x4 x5 xs0 xs1 = k0_pay15 (col xs0) (k0_pay11 x3 x1 x2) := by
  unfold out0_B_6
  rw [View.read_writes_eq_canon _ _ _ (cover0_B_6 c i a2 h2 a3 h3 a4 h4 a5 h5 a6 h6 a7 h7 a8 h8 a9 h9 a10 h10 a11 h11 a12 h12 a13 h13 a14 h14 hc0 hc1 x0 x1 x2 x3 x4 x5 xs0 xs1)]
  unfold kernelRun0_B
  dsimp only
  sl_unfold_words
  rw [View.canon_cons_unit_zero (S := S1x1x1024) hz3]
  simp only [View.readAt_eq_ld, h2.read_unread, h3.read_unread, h4.read_unread, h5.read_unread, h6.read_unread, h7.read_unread, h13.read_unread, h14.read_unread, View.ld_unit_zero (S := S8x4096) hz2, View.ld_unit_zero (S := S1x1024x4096) hz3,
    View.ld_unit_zero (S := S1x1x1024) hz3, View.ld_unit_zero (S := S8x128) hz2, View.ld_unit_zero (S := S4x2x8192) hz3, View.readCov_unit_zero (S := S8x128) _ hz2]
  rfl

/-- The middle grid point leaves the z-loss block at its payload. -/
theorem out0_B_7_eq (c : Dev nD) (i : grid0.Coords) (a2 : Memref sig .tc .vmem S4x2x8192 .i32) (h2 : a2.IsWhole) (a3 : Memref sig .tc .vmem S1x1024x4096 .fp8e4m3) (h3 : a3.IsWhole) (a4 : Memref sig .tc .vmem S1x1x1024 .f32) (h4 : a4.IsWhole) (a5 : Memref sig .tc .vmem S8x4096 .bf16) (h5 : a5.IsWhole) (a6 : Memref sig .tc .vmem S1x2x1024 .i32) (h6 : a6.IsWhole) (a7 : Memref sig .tc .vmem S1x2x1024 .f32) (h7 : a7.IsWhole) (a8 : Memref sig .tc .vmem S1x1x1024 .f32) (h8 : a8.IsWhole) (a9 : Memref sig .tc .vmem S1x1x1024 .f32) (h9 : a9.IsWhole) (a10 : Memref sig .tc .vmem S1x8 .f32) (h10 : a10.IsWhole) (a11 : Memref sig .tc .vmem S1x1x1024 .f32) (h11 : a11.IsWhole) (a12 : Memref sig .tc .vmem S1x8x1024 .f32) (h12 : a12.IsWhole) (a13 : Memref sig .tc .vmem S8x128 .f32) (h13 : a13.IsWhole) (a14 : Memref sig .tc .vmem S8x128 .f32) (h14 : a14.IsWhole) (hc0 : ¬cond0_0 i) (hc1 : ¬cond0_1 i)
    (x0 : Vec F S4x2x8192 .i32) (x1 : Vec F S1x1024x4096 .fp8e4m3) (x2 : Vec F S1x1x1024 .f32) (x3 : Vec F S8x4096 .bf16) (x4 : Vec F S1x2x1024 .i32) (x5 : Vec F S1x2x1024 .f32) (xs0 : Vec F S8x128 .f32) (xs1 : Vec F S8x128 .f32) :
    out0_B_7 c i a2 h2 a3 h3 a4 h4 a5 h5 a6 h6 a7 h7 a8 h8 a9 h9 a10 h10 a11 h11 a12 h12 a13 h13 a14 h14 hc0 hc1 x0 x1 x2 x3 x4 x5 xs0 xs1 = k0_pay16 (k0_pay10 x3 x1 x2) := by
  unfold out0_B_7
  rw [View.read_writes_eq_canon _ _ _ (cover0_B_7 c i a2 h2 a3 h3 a4 h4 a5 h5 a6 h6 a7 h7 a8 h8 a9 h9 a10 h10 a11 h11 a12 h12 a13 h13 a14 h14 hc0 hc1 x0 x1 x2 x3 x4 x5 xs0 xs1)]
  unfold kernelRun0_B
  dsimp only
  sl_unfold_words
  rw [View.canon_cons_unit_zero (S := S1x1x1024) hz3]
  simp only [View.readAt_eq_ld, h2.read_unread, h3.read_unread, h4.read_unread, h5.read_unread, h6.read_unread, h7.read_unread, h13.read_unread, h14.read_unread, View.ld_unit_zero (S := S8x4096) hz2, View.ld_unit_zero (S := S1x1024x4096) hz3,
    View.ld_unit_zero (S := S1x1x1024) hz3, View.ld_unit_zero (S := S8x128) hz2, View.ld_unit_zero (S := S4x2x8192) hz3, View.readCov_unit_zero (S := S8x128) _ hz2]

/-- The middle grid point leaves the log-sum-exp block at its payload. -/
theorem out0_B_9_eq (c : Dev nD) (i : grid0.Coords) (a2 : Memref sig .tc .vmem S4x2x8192 .i32) (h2 : a2.IsWhole) (a3 : Memref sig .tc .vmem S1x1024x4096 .fp8e4m3) (h3 : a3.IsWhole) (a4 : Memref sig .tc .vmem S1x1x1024 .f32) (h4 : a4.IsWhole) (a5 : Memref sig .tc .vmem S8x4096 .bf16) (h5 : a5.IsWhole) (a6 : Memref sig .tc .vmem S1x2x1024 .i32) (h6 : a6.IsWhole) (a7 : Memref sig .tc .vmem S1x2x1024 .f32) (h7 : a7.IsWhole) (a8 : Memref sig .tc .vmem S1x1x1024 .f32) (h8 : a8.IsWhole) (a9 : Memref sig .tc .vmem S1x1x1024 .f32) (h9 : a9.IsWhole) (a10 : Memref sig .tc .vmem S1x8 .f32) (h10 : a10.IsWhole) (a11 : Memref sig .tc .vmem S1x1x1024 .f32) (h11 : a11.IsWhole) (a12 : Memref sig .tc .vmem S1x8x1024 .f32) (h12 : a12.IsWhole) (a13 : Memref sig .tc .vmem S8x128 .f32) (h13 : a13.IsWhole) (a14 : Memref sig .tc .vmem S8x128 .f32) (h14 : a14.IsWhole) (hc0 : ¬cond0_0 i) (hc1 : ¬cond0_1 i)
    (x0 : Vec F S4x2x8192 .i32) (x1 : Vec F S1x1024x4096 .fp8e4m3) (x2 : Vec F S1x1x1024 .f32) (x3 : Vec F S8x4096 .bf16) (x4 : Vec F S1x2x1024 .i32) (x5 : Vec F S1x2x1024 .f32) (xs0 : Vec F S8x128 .f32) (xs1 : Vec F S8x128 .f32) :
    out0_B_9 c i a2 h2 a3 h3 a4 h4 a5 h5 a6 h6 a7 h7 a8 h8 a9 h9 a10 h10 a11 h11 a12 h12 a13 h13 a14 h14 hc0 hc1 x0 x1 x2 x3 x4 x5 xs0 xs1 = k0_pay17 (k0_pay10 x3 x1 x2) := by
  unfold out0_B_9
  rw [View.read_writes_eq_canon _ _ _ (cover0_B_9 c i a2 h2 a3 h3 a4 h4 a5 h5 a6 h6 a7 h7 a8 h8 a9 h9 a10 h10 a11 h11 a12 h12 a13 h13 a14 h14 hc0 hc1 x0 x1 x2 x3 x4 x5 xs0 xs1)]
  unfold kernelRun0_B
  dsimp only
  sl_unfold_words
  rw [View.canon_cons_unit_zero (S := S1x1x1024) hz3]
  simp only [View.readAt_eq_ld, h2.read_unread, h3.read_unread, h4.read_unread, h5.read_unread, h6.read_unread, h7.read_unread, h13.read_unread, h14.read_unread, View.ld_unit_zero (S := S8x4096) hz2, View.ld_unit_zero (S := S1x1024x4096) hz3,
    View.ld_unit_zero (S := S1x1x1024) hz3, View.ld_unit_zero (S := S8x128) hz2, View.ld_unit_zero (S := S4x2x8192) hz3, View.readCov_unit_zero (S := S8x128) _ hz2]

/-- The middle grid point leaves the logit-gradient block at its payload. -/
theorem out0_B_10_eq (c : Dev nD) (i : grid0.Coords) (a2 : Memref sig .tc .vmem S4x2x8192 .i32) (h2 : a2.IsWhole) (a3 : Memref sig .tc .vmem S1x1024x4096 .fp8e4m3) (h3 : a3.IsWhole) (a4 : Memref sig .tc .vmem S1x1x1024 .f32) (h4 : a4.IsWhole) (a5 : Memref sig .tc .vmem S8x4096 .bf16) (h5 : a5.IsWhole) (a6 : Memref sig .tc .vmem S1x2x1024 .i32) (h6 : a6.IsWhole) (a7 : Memref sig .tc .vmem S1x2x1024 .f32) (h7 : a7.IsWhole) (a8 : Memref sig .tc .vmem S1x1x1024 .f32) (h8 : a8.IsWhole) (a9 : Memref sig .tc .vmem S1x1x1024 .f32) (h9 : a9.IsWhole) (a10 : Memref sig .tc .vmem S1x8 .f32) (h10 : a10.IsWhole) (a11 : Memref sig .tc .vmem S1x1x1024 .f32) (h11 : a11.IsWhole) (a12 : Memref sig .tc .vmem S1x8x1024 .f32) (h12 : a12.IsWhole) (a13 : Memref sig .tc .vmem S8x128 .f32) (h13 : a13.IsWhole) (a14 : Memref sig .tc .vmem S8x128 .f32) (h14 : a14.IsWhole) (hc0 : ¬cond0_0 i) (hc1 : ¬cond0_1 i)
    (x0 : Vec F S4x2x8192 .i32) (x1 : Vec F S1x1024x4096 .fp8e4m3) (x2 : Vec F S1x1x1024 .f32) (x3 : Vec F S8x4096 .bf16) (x4 : Vec F S1x2x1024 .i32) (x5 : Vec F S1x2x1024 .f32) (xs0 : Vec F S8x128 .f32) (xs1 : Vec F S8x128 .f32) :
    out0_B_10 c i a2 h2 a3 h3 a4 h4 a5 h5 a6 h6 a7 h7 a8 h8 a9 h9 a10 h10 a11 h11 a12 h12 a13 h13 a14 h14 hc0 hc1 x0 x1 x2 x3 x4 x5 xs0 xs1 = dlogits xs0 x1 x2 x3 x4 x5 := by
  unfold out0_B_10
  rw [View.read_writes_eq_canon _ _ _ (cover0_B_10 c i a2 h2 a3 h3 a4 h4 a5 h5 a6 h6 a7 h7 a8 h8 a9 h9 a10 h10 a11 h11 a12 h12 a13 h13 a14 h14 hc0 hc1 x0 x1 x2 x3 x4 x5 xs0 xs1)]
  unfold kernelRun0_B
  dsimp only
  sl_unfold_words
  rw [View.canon_cons_unit_zero (S := S1x8x1024) hz3]
  simp only [View.readAt_eq_ld, h2.read_unread, h3.read_unread, h4.read_unread, h5.read_unread, h6.read_unread, h7.read_unread, h13.read_unread, h14.read_unread, View.ld_unit_zero (S := S8x4096) hz2, View.ld_unit_zero (S := S1x1024x4096) hz3,
    View.ld_unit_zero (S := S1x1x1024) hz3, View.ld_unit_zero (S := S8x128) hz2, View.ld_unit_zero (S := S4x2x8192) hz3, View.readCov_unit_zero (S := S8x128) _ hz2]
  rfl

/-- The middle grid point leaves the frequency scratch at `xs0`. -/
theorem sout0_B_0_eq (c : Dev nD) (i : grid0.Coords) (a2 : Memref sig .tc .vmem S4x2x8192 .i32) (h2 : a2.IsWhole) (a3 : Memref sig .tc .vmem S1x1024x4096 .fp8e4m3) (h3 : a3.IsWhole) (a4 : Memref sig .tc .vmem S1x1x1024 .f32) (h4 : a4.IsWhole) (a5 : Memref sig .tc .vmem S8x4096 .bf16) (h5 : a5.IsWhole) (a6 : Memref sig .tc .vmem S1x2x1024 .i32) (h6 : a6.IsWhole) (a7 : Memref sig .tc .vmem S1x2x1024 .f32) (h7 : a7.IsWhole) (a8 : Memref sig .tc .vmem S1x1x1024 .f32) (h8 : a8.IsWhole) (a9 : Memref sig .tc .vmem S1x1x1024 .f32) (h9 : a9.IsWhole) (a10 : Memref sig .tc .vmem S1x8 .f32) (h10 : a10.IsWhole) (a11 : Memref sig .tc .vmem S1x1x1024 .f32) (h11 : a11.IsWhole) (a12 : Memref sig .tc .vmem S1x8x1024 .f32) (h12 : a12.IsWhole) (a13 : Memref sig .tc .vmem S8x128 .f32) (h13 : a13.IsWhole) (a14 : Memref sig .tc .vmem S8x128 .f32) (h14 : a14.IsWhole) (hc0 : ¬cond0_0 i) (hc1 : ¬cond0_1 i)
    (x0 : Vec F S4x2x8192 .i32) (x1 : Vec F S1x1024x4096 .fp8e4m3) (x2 : Vec F S1x1x1024 .f32) (x3 : Vec F S8x4096 .bf16) (x4 : Vec F S1x2x1024 .i32) (x5 : Vec F S1x2x1024 .f32) (xs0 : Vec F S8x128 .f32) (xs1 : Vec F S8x128 .f32) :
    sout0_B_0 c i a2 h2 a3 h3 a4 h4 a5 h5 a6 h6 a7 h7 a8 h8 a9 h9 a10 h10 a11 h11 a12 h12 a13 h13 a14 h14 hc0 hc1 x0 x1 x2 x3 x4 x5 xs0 xs1 = xs0 := by
  rfl

/-- The middle grid point adds its row sums to the probability scratch. -/
theorem sout0_B_1_eq (c : Dev nD) (i : grid0.Coords) (a2 : Memref sig .tc .vmem S4x2x8192 .i32) (h2 : a2.IsWhole) (a3 : Memref sig .tc .vmem S1x1024x4096 .fp8e4m3) (h3 : a3.IsWhole) (a4 : Memref sig .tc .vmem S1x1x1024 .f32) (h4 : a4.IsWhole) (a5 : Memref sig .tc .vmem S8x4096 .bf16) (h5 : a5.IsWhole) (a6 : Memref sig .tc .vmem S1x2x1024 .i32) (h6 : a6.IsWhole) (a7 : Memref sig .tc .vmem S1x2x1024 .f32) (h7 : a7.IsWhole) (a8 : Memref sig .tc .vmem S1x1x1024 .f32) (h8 : a8.IsWhole) (a9 : Memref sig .tc .vmem S1x1x1024 .f32) (h9 : a9.IsWhole) (a10 : Memref sig .tc .vmem S1x8 .f32) (h10 : a10.IsWhole) (a11 : Memref sig .tc .vmem S1x1x1024 .f32) (h11 : a11.IsWhole) (a12 : Memref sig .tc .vmem S1x8x1024 .f32) (h12 : a12.IsWhole) (a13 : Memref sig .tc .vmem S8x128 .f32) (h13 : a13.IsWhole) (a14 : Memref sig .tc .vmem S8x128 .f32) (h14 : a14.IsWhole) (hc0 : ¬cond0_0 i) (hc1 : ¬cond0_1 i)
    (x0 : Vec F S4x2x8192 .i32) (x1 : Vec F S1x1024x4096 .fp8e4m3) (x2 : Vec F S1x1x1024 .f32) (x3 : Vec F S8x4096 .bf16) (x4 : Vec F S1x2x1024 .i32) (x5 : Vec F S1x2x1024 .f32) (xs0 : Vec F S8x128 .f32) (xs1 : Vec F S8x128 .f32) :
    sout0_B_1 c i a2 h2 a3 h3 a4 h4 a5 h5 a6 h6 a7 h7 a8 h8 a9 h9 a10 h10 a11 h11 a12 h12 a13 h13 a14 h14 hc0 hc1 x0 x1 x2 x3 x4 x5 xs0 xs1 = k0_pay13 (xs1) (k0_pay12 x3 x1 x2) := by
  unfold sout0_B_1
  rw [View.read_writes_eq_canon _ _ _ (scover0_B_1 c i a2 h2 a3 h3 a4 h4 a5 h5 a6 h6 a7 h7 a8 h8 a9 h9 a10 h10 a11 h11 a12 h12 a13 h13 a14 h14 hc0 hc1 x0 x1 x2 x3 x4 x5 xs0 xs1)]
  unfold kernelRun0_B
  dsimp only
  sl_unfold_words
  rw [View.canon_cons_unit_zero (S := S8x128) hz2]
  simp only [View.readAt_eq_ld, h2.read_unread, h3.read_unread, h4.read_unread, h5.read_unread, h6.read_unread, h7.read_unread, h13.read_unread, h14.read_unread, View.ld_unit_zero (S := S8x4096) hz2, View.ld_unit_zero (S := S1x1024x4096) hz3,
    View.ld_unit_zero (S := S1x1x1024) hz3, View.ld_unit_zero (S := S8x128) hz2, View.ld_unit_zero (S := S4x2x8192) hz3, View.readCov_unit_zero (S := S8x128) _ hz2]

/-- The last grid point leaves the auxiliary-loss block at its payload. -/
theorem out0_C_6_eq (c : Dev nD) (i : grid0.Coords) (a2 : Memref sig .tc .vmem S4x2x8192 .i32) (h2 : a2.IsWhole) (a3 : Memref sig .tc .vmem S1x1024x4096 .fp8e4m3) (h3 : a3.IsWhole) (a4 : Memref sig .tc .vmem S1x1x1024 .f32) (h4 : a4.IsWhole) (a5 : Memref sig .tc .vmem S8x4096 .bf16) (h5 : a5.IsWhole) (a6 : Memref sig .tc .vmem S1x2x1024 .i32) (h6 : a6.IsWhole) (a7 : Memref sig .tc .vmem S1x2x1024 .f32) (h7 : a7.IsWhole) (a8 : Memref sig .tc .vmem S1x1x1024 .f32) (h8 : a8.IsWhole) (a9 : Memref sig .tc .vmem S1x1x1024 .f32) (h9 : a9.IsWhole) (a10 : Memref sig .tc .vmem S1x8 .f32) (h10 : a10.IsWhole) (a11 : Memref sig .tc .vmem S1x1x1024 .f32) (h11 : a11.IsWhole) (a12 : Memref sig .tc .vmem S1x8x1024 .f32) (h12 : a12.IsWhole) (a13 : Memref sig .tc .vmem S8x128 .f32) (h13 : a13.IsWhole) (a14 : Memref sig .tc .vmem S8x128 .f32) (h14 : a14.IsWhole) (hc0 : ¬cond0_0 i) (hc1 : cond0_1 i)
    (x0 : Vec F S4x2x8192 .i32) (x1 : Vec F S1x1024x4096 .fp8e4m3) (x2 : Vec F S1x1x1024 .f32) (x3 : Vec F S8x4096 .bf16) (x4 : Vec F S1x2x1024 .i32) (x5 : Vec F S1x2x1024 .f32) (xs0 : Vec F S8x128 .f32) (xs1 : Vec F S8x128 .f32) :
    out0_C_6 c i a2 h2 a3 h3 a4 h4 a5 h5 a6 h6 a7 h7 a8 h8 a9 h9 a10 h10 a11 h11 a12 h12 a13 h13 a14 h14 hc0 hc1 x0 x1 x2 x3 x4 x5 xs0 xs1 = k0_pay15 (col xs0) (k0_pay11 x3 x1 x2) := by
  unfold out0_C_6
  rw [View.read_writes_eq_canon _ _ _ (cover0_C_6 c i a2 h2 a3 h3 a4 h4 a5 h5 a6 h6 a7 h7 a8 h8 a9 h9 a10 h10 a11 h11 a12 h12 a13 h13 a14 h14 hc0 hc1 x0 x1 x2 x3 x4 x5 xs0 xs1)]
  unfold kernelRun0_C
  dsimp only
  sl_unfold_words
  rw [View.canon_cons_unit_zero (S := S1x1x1024) hz3]
  simp only [View.readAt_eq_ld, h2.read_unread, h3.read_unread, h4.read_unread, h5.read_unread, h6.read_unread, h7.read_unread, h13.read_unread, h14.read_unread, View.ld_unit_zero (S := S8x4096) hz2, View.ld_unit_zero (S := S1x1024x4096) hz3,
    View.ld_unit_zero (S := S1x1x1024) hz3, View.ld_unit_zero (S := S8x128) hz2, View.ld_unit_zero (S := S4x2x8192) hz3, View.readCov_unit_zero (S := S8x128) _ hz2]
  rfl

/-- The last grid point leaves the z-loss block at its payload. -/
theorem out0_C_7_eq (c : Dev nD) (i : grid0.Coords) (a2 : Memref sig .tc .vmem S4x2x8192 .i32) (h2 : a2.IsWhole) (a3 : Memref sig .tc .vmem S1x1024x4096 .fp8e4m3) (h3 : a3.IsWhole) (a4 : Memref sig .tc .vmem S1x1x1024 .f32) (h4 : a4.IsWhole) (a5 : Memref sig .tc .vmem S8x4096 .bf16) (h5 : a5.IsWhole) (a6 : Memref sig .tc .vmem S1x2x1024 .i32) (h6 : a6.IsWhole) (a7 : Memref sig .tc .vmem S1x2x1024 .f32) (h7 : a7.IsWhole) (a8 : Memref sig .tc .vmem S1x1x1024 .f32) (h8 : a8.IsWhole) (a9 : Memref sig .tc .vmem S1x1x1024 .f32) (h9 : a9.IsWhole) (a10 : Memref sig .tc .vmem S1x8 .f32) (h10 : a10.IsWhole) (a11 : Memref sig .tc .vmem S1x1x1024 .f32) (h11 : a11.IsWhole) (a12 : Memref sig .tc .vmem S1x8x1024 .f32) (h12 : a12.IsWhole) (a13 : Memref sig .tc .vmem S8x128 .f32) (h13 : a13.IsWhole) (a14 : Memref sig .tc .vmem S8x128 .f32) (h14 : a14.IsWhole) (hc0 : ¬cond0_0 i) (hc1 : cond0_1 i)
    (x0 : Vec F S4x2x8192 .i32) (x1 : Vec F S1x1024x4096 .fp8e4m3) (x2 : Vec F S1x1x1024 .f32) (x3 : Vec F S8x4096 .bf16) (x4 : Vec F S1x2x1024 .i32) (x5 : Vec F S1x2x1024 .f32) (xs0 : Vec F S8x128 .f32) (xs1 : Vec F S8x128 .f32) :
    out0_C_7 c i a2 h2 a3 h3 a4 h4 a5 h5 a6 h6 a7 h7 a8 h8 a9 h9 a10 h10 a11 h11 a12 h12 a13 h13 a14 h14 hc0 hc1 x0 x1 x2 x3 x4 x5 xs0 xs1 = k0_pay16 (k0_pay10 x3 x1 x2) := by
  unfold out0_C_7
  rw [View.read_writes_eq_canon _ _ _ (cover0_C_7 c i a2 h2 a3 h3 a4 h4 a5 h5 a6 h6 a7 h7 a8 h8 a9 h9 a10 h10 a11 h11 a12 h12 a13 h13 a14 h14 hc0 hc1 x0 x1 x2 x3 x4 x5 xs0 xs1)]
  unfold kernelRun0_C
  dsimp only
  sl_unfold_words
  rw [View.canon_cons_unit_zero (S := S1x1x1024) hz3]
  simp only [View.readAt_eq_ld, h2.read_unread, h3.read_unread, h4.read_unread, h5.read_unread, h6.read_unread, h7.read_unread, h13.read_unread, h14.read_unread, View.ld_unit_zero (S := S8x4096) hz2, View.ld_unit_zero (S := S1x1024x4096) hz3,
    View.ld_unit_zero (S := S1x1x1024) hz3, View.ld_unit_zero (S := S8x128) hz2, View.ld_unit_zero (S := S4x2x8192) hz3, View.readCov_unit_zero (S := S8x128) _ hz2]

/-- The last grid point leaves the mean-probability block at its payload. -/
theorem out0_C_8_eq (c : Dev nD) (i : grid0.Coords) (a2 : Memref sig .tc .vmem S4x2x8192 .i32) (h2 : a2.IsWhole) (a3 : Memref sig .tc .vmem S1x1024x4096 .fp8e4m3) (h3 : a3.IsWhole) (a4 : Memref sig .tc .vmem S1x1x1024 .f32) (h4 : a4.IsWhole) (a5 : Memref sig .tc .vmem S8x4096 .bf16) (h5 : a5.IsWhole) (a6 : Memref sig .tc .vmem S1x2x1024 .i32) (h6 : a6.IsWhole) (a7 : Memref sig .tc .vmem S1x2x1024 .f32) (h7 : a7.IsWhole) (a8 : Memref sig .tc .vmem S1x1x1024 .f32) (h8 : a8.IsWhole) (a9 : Memref sig .tc .vmem S1x1x1024 .f32) (h9 : a9.IsWhole) (a10 : Memref sig .tc .vmem S1x8 .f32) (h10 : a10.IsWhole) (a11 : Memref sig .tc .vmem S1x1x1024 .f32) (h11 : a11.IsWhole) (a12 : Memref sig .tc .vmem S1x8x1024 .f32) (h12 : a12.IsWhole) (a13 : Memref sig .tc .vmem S8x128 .f32) (h13 : a13.IsWhole) (a14 : Memref sig .tc .vmem S8x128 .f32) (h14 : a14.IsWhole) (hc0 : ¬cond0_0 i) (hc1 : cond0_1 i)
    (x0 : Vec F S4x2x8192 .i32) (x1 : Vec F S1x1024x4096 .fp8e4m3) (x2 : Vec F S1x1x1024 .f32) (x3 : Vec F S8x4096 .bf16) (x4 : Vec F S1x2x1024 .i32) (x5 : Vec F S1x2x1024 .f32) (xs0 : Vec F S8x128 .f32) (xs1 : Vec F S8x128 .f32) :
    out0_C_8 c i a2 h2 a3 h3 a4 h4 a5 h5 a6 h6 a7 h7 a8 h8 a9 h9 a10 h10 a11 h11 a12 h12 a13 h13 a14 h14 hc0 hc1 x0 x1 x2 x3 x4 x5 xs0 xs1 = k0_pay2 (k0_pay13 xs1 (k0_pay12 x3 x1 x2)) := by
  unfold out0_C_8
  rw [View.read_writes_eq_canon _ _ _ (cover0_C_8 c i a2 h2 a3 h3 a4 h4 a5 h5 a6 h6 a7 h7 a8 h8 a9 h9 a10 h10 a11 h11 a12 h12 a13 h13 a14 h14 hc0 hc1 x0 x1 x2 x3 x4 x5 xs0 xs1)]
  unfold kernelRun0_C
  dsimp only
  sl_unfold_words
  rw [View.canon_cons_unit_zero (S := S1x8) hz2]
  simp only [View.readAt_eq_ld, h2.read_unread, h3.read_unread, h4.read_unread, h5.read_unread, h6.read_unread, h7.read_unread, h13.read_unread, h14.read_unread, View.ld_unit_zero (S := S8x4096) hz2, View.ld_unit_zero (S := S1x1024x4096) hz3,
    View.ld_unit_zero (S := S1x1x1024) hz3, View.ld_unit_zero (S := S8x128) hz2, View.ld_unit_zero (S := S4x2x8192) hz3, View.readCov_unit_zero (S := S8x128) _ hz2]

/-- The last grid point leaves the log-sum-exp block at its payload. -/
theorem out0_C_9_eq (c : Dev nD) (i : grid0.Coords) (a2 : Memref sig .tc .vmem S4x2x8192 .i32) (h2 : a2.IsWhole) (a3 : Memref sig .tc .vmem S1x1024x4096 .fp8e4m3) (h3 : a3.IsWhole) (a4 : Memref sig .tc .vmem S1x1x1024 .f32) (h4 : a4.IsWhole) (a5 : Memref sig .tc .vmem S8x4096 .bf16) (h5 : a5.IsWhole) (a6 : Memref sig .tc .vmem S1x2x1024 .i32) (h6 : a6.IsWhole) (a7 : Memref sig .tc .vmem S1x2x1024 .f32) (h7 : a7.IsWhole) (a8 : Memref sig .tc .vmem S1x1x1024 .f32) (h8 : a8.IsWhole) (a9 : Memref sig .tc .vmem S1x1x1024 .f32) (h9 : a9.IsWhole) (a10 : Memref sig .tc .vmem S1x8 .f32) (h10 : a10.IsWhole) (a11 : Memref sig .tc .vmem S1x1x1024 .f32) (h11 : a11.IsWhole) (a12 : Memref sig .tc .vmem S1x8x1024 .f32) (h12 : a12.IsWhole) (a13 : Memref sig .tc .vmem S8x128 .f32) (h13 : a13.IsWhole) (a14 : Memref sig .tc .vmem S8x128 .f32) (h14 : a14.IsWhole) (hc0 : ¬cond0_0 i) (hc1 : cond0_1 i)
    (x0 : Vec F S4x2x8192 .i32) (x1 : Vec F S1x1024x4096 .fp8e4m3) (x2 : Vec F S1x1x1024 .f32) (x3 : Vec F S8x4096 .bf16) (x4 : Vec F S1x2x1024 .i32) (x5 : Vec F S1x2x1024 .f32) (xs0 : Vec F S8x128 .f32) (xs1 : Vec F S8x128 .f32) :
    out0_C_9 c i a2 h2 a3 h3 a4 h4 a5 h5 a6 h6 a7 h7 a8 h8 a9 h9 a10 h10 a11 h11 a12 h12 a13 h13 a14 h14 hc0 hc1 x0 x1 x2 x3 x4 x5 xs0 xs1 = k0_pay17 (k0_pay10 x3 x1 x2) := by
  unfold out0_C_9
  rw [View.read_writes_eq_canon _ _ _ (cover0_C_9 c i a2 h2 a3 h3 a4 h4 a5 h5 a6 h6 a7 h7 a8 h8 a9 h9 a10 h10 a11 h11 a12 h12 a13 h13 a14 h14 hc0 hc1 x0 x1 x2 x3 x4 x5 xs0 xs1)]
  unfold kernelRun0_C
  dsimp only
  sl_unfold_words
  rw [View.canon_cons_unit_zero (S := S1x1x1024) hz3]
  simp only [View.readAt_eq_ld, h2.read_unread, h3.read_unread, h4.read_unread, h5.read_unread, h6.read_unread, h7.read_unread, h13.read_unread, h14.read_unread, View.ld_unit_zero (S := S8x4096) hz2, View.ld_unit_zero (S := S1x1024x4096) hz3,
    View.ld_unit_zero (S := S1x1x1024) hz3, View.ld_unit_zero (S := S8x128) hz2, View.ld_unit_zero (S := S4x2x8192) hz3, View.readCov_unit_zero (S := S8x128) _ hz2]

/-- The last grid point leaves the logit-gradient block at its payload. -/
theorem out0_C_10_eq (c : Dev nD) (i : grid0.Coords) (a2 : Memref sig .tc .vmem S4x2x8192 .i32) (h2 : a2.IsWhole) (a3 : Memref sig .tc .vmem S1x1024x4096 .fp8e4m3) (h3 : a3.IsWhole) (a4 : Memref sig .tc .vmem S1x1x1024 .f32) (h4 : a4.IsWhole) (a5 : Memref sig .tc .vmem S8x4096 .bf16) (h5 : a5.IsWhole) (a6 : Memref sig .tc .vmem S1x2x1024 .i32) (h6 : a6.IsWhole) (a7 : Memref sig .tc .vmem S1x2x1024 .f32) (h7 : a7.IsWhole) (a8 : Memref sig .tc .vmem S1x1x1024 .f32) (h8 : a8.IsWhole) (a9 : Memref sig .tc .vmem S1x1x1024 .f32) (h9 : a9.IsWhole) (a10 : Memref sig .tc .vmem S1x8 .f32) (h10 : a10.IsWhole) (a11 : Memref sig .tc .vmem S1x1x1024 .f32) (h11 : a11.IsWhole) (a12 : Memref sig .tc .vmem S1x8x1024 .f32) (h12 : a12.IsWhole) (a13 : Memref sig .tc .vmem S8x128 .f32) (h13 : a13.IsWhole) (a14 : Memref sig .tc .vmem S8x128 .f32) (h14 : a14.IsWhole) (hc0 : ¬cond0_0 i) (hc1 : cond0_1 i)
    (x0 : Vec F S4x2x8192 .i32) (x1 : Vec F S1x1024x4096 .fp8e4m3) (x2 : Vec F S1x1x1024 .f32) (x3 : Vec F S8x4096 .bf16) (x4 : Vec F S1x2x1024 .i32) (x5 : Vec F S1x2x1024 .f32) (xs0 : Vec F S8x128 .f32) (xs1 : Vec F S8x128 .f32) :
    out0_C_10 c i a2 h2 a3 h3 a4 h4 a5 h5 a6 h6 a7 h7 a8 h8 a9 h9 a10 h10 a11 h11 a12 h12 a13 h13 a14 h14 hc0 hc1 x0 x1 x2 x3 x4 x5 xs0 xs1 = dlogits xs0 x1 x2 x3 x4 x5 := by
  unfold out0_C_10
  rw [View.read_writes_eq_canon _ _ _ (cover0_C_10 c i a2 h2 a3 h3 a4 h4 a5 h5 a6 h6 a7 h7 a8 h8 a9 h9 a10 h10 a11 h11 a12 h12 a13 h13 a14 h14 hc0 hc1 x0 x1 x2 x3 x4 x5 xs0 xs1)]
  unfold kernelRun0_C
  dsimp only
  sl_unfold_words
  rw [View.canon_cons_unit_zero (S := S1x8x1024) hz3]
  simp only [View.readAt_eq_ld, h2.read_unread, h3.read_unread, h4.read_unread, h5.read_unread, h6.read_unread, h7.read_unread, h13.read_unread, h14.read_unread, View.ld_unit_zero (S := S8x4096) hz2, View.ld_unit_zero (S := S1x1024x4096) hz3,
    View.ld_unit_zero (S := S1x1x1024) hz3, View.ld_unit_zero (S := S8x128) hz2, View.ld_unit_zero (S := S4x2x8192) hz3, View.readCov_unit_zero (S := S8x128) _ hz2]
  rfl

/-- The last grid point leaves the frequency scratch at `xs0`. -/
theorem sout0_C_0_eq (c : Dev nD) (i : grid0.Coords) (a2 : Memref sig .tc .vmem S4x2x8192 .i32) (h2 : a2.IsWhole) (a3 : Memref sig .tc .vmem S1x1024x4096 .fp8e4m3) (h3 : a3.IsWhole) (a4 : Memref sig .tc .vmem S1x1x1024 .f32) (h4 : a4.IsWhole) (a5 : Memref sig .tc .vmem S8x4096 .bf16) (h5 : a5.IsWhole) (a6 : Memref sig .tc .vmem S1x2x1024 .i32) (h6 : a6.IsWhole) (a7 : Memref sig .tc .vmem S1x2x1024 .f32) (h7 : a7.IsWhole) (a8 : Memref sig .tc .vmem S1x1x1024 .f32) (h8 : a8.IsWhole) (a9 : Memref sig .tc .vmem S1x1x1024 .f32) (h9 : a9.IsWhole) (a10 : Memref sig .tc .vmem S1x8 .f32) (h10 : a10.IsWhole) (a11 : Memref sig .tc .vmem S1x1x1024 .f32) (h11 : a11.IsWhole) (a12 : Memref sig .tc .vmem S1x8x1024 .f32) (h12 : a12.IsWhole) (a13 : Memref sig .tc .vmem S8x128 .f32) (h13 : a13.IsWhole) (a14 : Memref sig .tc .vmem S8x128 .f32) (h14 : a14.IsWhole) (hc0 : ¬cond0_0 i) (hc1 : cond0_1 i)
    (x0 : Vec F S4x2x8192 .i32) (x1 : Vec F S1x1024x4096 .fp8e4m3) (x2 : Vec F S1x1x1024 .f32) (x3 : Vec F S8x4096 .bf16) (x4 : Vec F S1x2x1024 .i32) (x5 : Vec F S1x2x1024 .f32) (xs0 : Vec F S8x128 .f32) (xs1 : Vec F S8x128 .f32) :
    sout0_C_0 c i a2 h2 a3 h3 a4 h4 a5 h5 a6 h6 a7 h7 a8 h8 a9 h9 a10 h10 a11 h11 a12 h12 a13 h13 a14 h14 hc0 hc1 x0 x1 x2 x3 x4 x5 xs0 xs1 = xs0 := by
  rfl

/-- The last grid point adds its row sums to the probability scratch. -/
theorem sout0_C_1_eq (c : Dev nD) (i : grid0.Coords) (a2 : Memref sig .tc .vmem S4x2x8192 .i32) (h2 : a2.IsWhole) (a3 : Memref sig .tc .vmem S1x1024x4096 .fp8e4m3) (h3 : a3.IsWhole) (a4 : Memref sig .tc .vmem S1x1x1024 .f32) (h4 : a4.IsWhole) (a5 : Memref sig .tc .vmem S8x4096 .bf16) (h5 : a5.IsWhole) (a6 : Memref sig .tc .vmem S1x2x1024 .i32) (h6 : a6.IsWhole) (a7 : Memref sig .tc .vmem S1x2x1024 .f32) (h7 : a7.IsWhole) (a8 : Memref sig .tc .vmem S1x1x1024 .f32) (h8 : a8.IsWhole) (a9 : Memref sig .tc .vmem S1x1x1024 .f32) (h9 : a9.IsWhole) (a10 : Memref sig .tc .vmem S1x8 .f32) (h10 : a10.IsWhole) (a11 : Memref sig .tc .vmem S1x1x1024 .f32) (h11 : a11.IsWhole) (a12 : Memref sig .tc .vmem S1x8x1024 .f32) (h12 : a12.IsWhole) (a13 : Memref sig .tc .vmem S8x128 .f32) (h13 : a13.IsWhole) (a14 : Memref sig .tc .vmem S8x128 .f32) (h14 : a14.IsWhole) (hc0 : ¬cond0_0 i) (hc1 : cond0_1 i)
    (x0 : Vec F S4x2x8192 .i32) (x1 : Vec F S1x1024x4096 .fp8e4m3) (x2 : Vec F S1x1x1024 .f32) (x3 : Vec F S8x4096 .bf16) (x4 : Vec F S1x2x1024 .i32) (x5 : Vec F S1x2x1024 .f32) (xs0 : Vec F S8x128 .f32) (xs1 : Vec F S8x128 .f32) :
    sout0_C_1 c i a2 h2 a3 h3 a4 h4 a5 h5 a6 h6 a7 h7 a8 h8 a9 h9 a10 h10 a11 h11 a12 h12 a13 h13 a14 h14 hc0 hc1 x0 x1 x2 x3 x4 x5 xs0 xs1 = k0_pay13 (xs1) (k0_pay12 x3 x1 x2) := by
  unfold sout0_C_1
  rw [View.read_writes_eq_canon _ _ _ (scover0_C_1 c i a2 h2 a3 h3 a4 h4 a5 h5 a6 h6 a7 h7 a8 h8 a9 h9 a10 h10 a11 h11 a12 h12 a13 h13 a14 h14 hc0 hc1 x0 x1 x2 x3 x4 x5 xs0 xs1)]
  unfold kernelRun0_C
  dsimp only
  sl_unfold_words
  rw [View.canon_cons_unit_zero (S := S8x128) hz2]
  simp only [View.readAt_eq_ld, h2.read_unread, h3.read_unread, h4.read_unread, h5.read_unread, h6.read_unread, h7.read_unread, h13.read_unread, h14.read_unread, View.ld_unit_zero (S := S8x4096) hz2, View.ld_unit_zero (S := S1x1024x4096) hz3,
    View.ld_unit_zero (S := S1x1x1024) hz3, View.ld_unit_zero (S := S8x128) hz2, View.ld_unit_zero (S := S4x2x8192) hz3, View.readCov_unit_zero (S := S8x128) _ hz2]

end Cert.KernelIdeal.Pieces
-- ==== Proof.Points.lean ====
/- The kernel's five arrays after the run.

   The contents the body leaves at each grid point in closed form (the frequency scratch is filled once and kept, the
   probability scratch is a running sum over the points, every output block is a payload of the point's input blocks), and
   from them each output array whole: which point writes which block, and that the blocks tile the array. -/
module

public import proofs.«01_k».proof.Proof.Pieces

@[expose] public section

noncomputable section

namespace Cert.KernelIdeal.Points

open Cert.KernelIdeal Cert.KernelIdeal.Gen Cert.KernelIdeal.Pieces
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

/-- Every point's number is below 32. -/
theorem lt_32 (t : Fin cfg0.N) : t.val < 32 := lt_of_lt_of_eq t.isLt N_0

/-- The frequency scratch, as the first point fills it. -/
def fq (c : Dev nD) : Vec F S8x128 .f32 := freq (iblk m c 0 ⟨0, lt_of_lt_of_eq (by decide) N_0.symm⟩)

/-- The row sums of the probabilities of point `t`'s block, along every lane. -/
def rows (c : Dev nD) (t : Fin cfg0.N) : FVec F S8x128 .f32 := k0_pay12 (iblk m c 3 t) (iblk m c 1 t) (iblk m c 2 t)

/-- The running sum of the row sums after point `n`. -/
def chain (c : Dev nD) : (n : ℕ) → n < cfg0.N → Vec F S8x128 .f32
  | 0, h => k0_pay13 (k0_pay8 (F := F)) (rows m c ⟨0, h⟩)
  | n + 1, h => k0_pay13 (chain c n (Nat.lt_of_succ_lt h)) (rows m c ⟨n + 1, h⟩)

/-- After every point the frequency scratch holds what the first point put there. -/
theorem fq_at (c : Dev nD) : ∀ (n : ℕ) (h : n < cfg0.N), (outsAt0 m c n h).2.2.2.2.2.1 = fq m c
  | 0, h => by
    rw [outsAt0_A m c ⟨0, h⟩ rfl (by simp)]
    dsimp only
    exact sout0_A_0_eq ..
  | n + 1, h => by
    have hn : n + 1 < 32 := lt_of_lt_of_eq h N_0
    have h0 : ¬(⟨n + 1, h⟩ : Fin cfg0.N).val % 32 = 0 := by dsimp only; omega
    by_cases h1 : (⟨n + 1, h⟩ : Fin cfg0.N).val % 32 = 31
    · rw [outsAt0_C m c ⟨n + 1, h⟩ h0 h1]
      dsimp only
      exact (sout0_C_0_eq ..).trans (fq_at c n _)
    · rw [outsAt0_B m c ⟨n + 1, h⟩ h0 h1]
      dsimp only
      exact (sout0_B_0_eq ..).trans (fq_at c n _)

/-- After every point the probability scratch holds the running sum. -/
theorem chain_at (c : Dev nD) : ∀ (n : ℕ) (h : n < cfg0.N), (outsAt0 m c n h).2.2.2.2.2.2 = chain m c n h
  | 0, h => by
    rw [outsAt0_A m c ⟨0, h⟩ rfl (by simp)]
    dsimp only
    exact sout0_A_1_eq ..
  | n + 1, h => by
    have hn : n + 1 < 32 := lt_of_lt_of_eq h N_0
    have h0 : ¬(⟨n + 1, h⟩ : Fin cfg0.N).val % 32 = 0 := by dsimp only; omega
    have ih := chain_at c n (Nat.lt_of_succ_lt h)
    by_cases h1 : (⟨n + 1, h⟩ : Fin cfg0.N).val % 32 = 31
    · rw [outsAt0_C m c ⟨n + 1, h⟩ h0 h1]
      dsimp only
      refine (sout0_C_1_eq ..).trans ?_
      exact congrArg (fun s => k0_pay13 s _) ih
    · rw [outsAt0_B m c ⟨n + 1, h⟩ h0 h1]
      dsimp only
      refine (sout0_B_1_eq ..).trans ?_
      exact congrArg (fun s => k0_pay13 s _) ih

/-- The contents after a point depend on the point's number only. -/
theorem outsAt0_congr (c : Dev nD) (j : ℕ) (h : j < cfg0.N) (j' : ℕ) (h' : j' < cfg0.N) (e : j = j') :
    outsAt0 m c j h = outsAt0 m c j' h' := by subst e; rfl

/-- The frequency scratch before a point that is not the first. -/
theorem fq_before (c : Dev nD) (t : Fin cfg0.N) (h : t.val - 1 < cfg0.N) : (outsAt0 m c (t.val - 1) h).2.2.2.2.2.1 = fq m c :=
  fq_at m c _ _

/-- What every point leaves in its auxiliary-loss block. -/
theorem blk6_at (c : Dev nD) (t : Fin cfg0.N) : (outsAt0 m c t.val t.isLt).1 = k0_pay15 (col (fq m c)) (k0_pay11 (iblk m c 3 t) (iblk m c 1 t) (iblk m c 2 t)) := by
  have ht := lt_32 t
  by_cases h0 : t.val % 32 = 0
  · rw [outsAt0_A m c t h0 (by omega)]
    dsimp only
    refine (out0_A_6_eq ..).trans ?_
    obtain rfl : t = ⟨0, lt_of_lt_of_eq (by decide) N_0.symm⟩ := Fin.ext (by dsimp only; omega)
    rfl
  · by_cases h1 : t.val % 32 = 31
    · rw [outsAt0_C m c t h0 h1]
      dsimp only
      refine (out0_C_6_eq ..).trans ?_
      exact congrArg (fun f => k0_pay15 (col f) (k0_pay11 (iblk m c 3 t) (iblk m c 1 t) (iblk m c 2 t))) (fq_before m c t _)
    · rw [outsAt0_B m c t h0 h1]
      dsimp only
      refine (out0_B_6_eq ..).trans ?_
      exact congrArg (fun f => k0_pay15 (col f) (k0_pay11 (iblk m c 3 t) (iblk m c 1 t) (iblk m c 2 t))) (fq_before m c t _)

/-- What every point leaves in its z-loss block. -/
theorem blk7_at (c : Dev nD) (t : Fin cfg0.N) : (outsAt0 m c t.val t.isLt).2.1 = k0_pay16 (k0_pay10 (iblk m c 3 t) (iblk m c 1 t) (iblk m c 2 t)) := by
  have ht := lt_32 t
  by_cases h0 : t.val % 32 = 0
  · rw [outsAt0_A m c t h0 (by omega)]
    dsimp only
    refine (out0_A_7_eq ..).trans ?_
    rfl
  · by_cases h1 : t.val % 32 = 31
    · rw [outsAt0_C m c t h0 h1]
      dsimp only
      refine (out0_C_7_eq ..).trans ?_
      rfl
    · rw [outsAt0_B m c t h0 h1]
      dsimp only
      refine (out0_B_7_eq ..).trans ?_
      rfl

/-- What every point leaves in its log-sum-exp block. -/
theorem blk9_at (c : Dev nD) (t : Fin cfg0.N) : (outsAt0 m c t.val t.isLt).2.2.2.1 = k0_pay17 (k0_pay10 (iblk m c 3 t) (iblk m c 1 t) (iblk m c 2 t)) := by
  have ht := lt_32 t
  by_cases h0 : t.val % 32 = 0
  · rw [outsAt0_A m c t h0 (by omega)]
    dsimp only
    refine (out0_A_9_eq ..).trans ?_
    rfl
  · by_cases h1 : t.val % 32 = 31
    · rw [outsAt0_C m c t h0 h1]
      dsimp only
      refine (out0_C_9_eq ..).trans ?_
      rfl
    · rw [outsAt0_B m c t h0 h1]
      dsimp only
      refine (out0_B_9_eq ..).trans ?_
      rfl

/-- What every point leaves in its logit-gradient block. -/
theorem blk10_at (c : Dev nD) (t : Fin cfg0.N) : (outsAt0 m c t.val t.isLt).2.2.2.2.1 = dlogits (fq m c) (iblk m c 1 t) (iblk m c 2 t) (iblk m c 3 t) (iblk m c 4 t) (iblk m c 5 t) := by
  have ht := lt_32 t
  by_cases h0 : t.val % 32 = 0
  · rw [outsAt0_A m c t h0 (by omega)]
    dsimp only
    refine (out0_A_10_eq ..).trans ?_
    obtain rfl : t = ⟨0, lt_of_lt_of_eq (by decide) N_0.symm⟩ := Fin.ext (by dsimp only; omega)
    rfl
  · by_cases h1 : t.val % 32 = 31
    · rw [outsAt0_C m c t h0 h1]
      dsimp only
      refine (out0_C_10_eq ..).trans ?_
      exact congrArg (fun f => dlogits f (iblk m c 1 t) (iblk m c 2 t) (iblk m c 3 t) (iblk m c 4 t) (iblk m c 5 t)) (fq_before m c t _)
    · rw [outsAt0_B m c t h0 h1]
      dsimp only
      refine (out0_B_10_eq ..).trans ?_
      exact congrArg (fun f => dlogits f (iblk m c 1 t) (iblk m c 2 t) (iblk m c 3 t) (iblk m c 4 t) (iblk m c 5 t)) (fq_before m c t _)

/-- What the last point leaves in the mean-probability block. -/
theorem blk8_at (c : Dev nD) (t : Fin cfg0.N) (h1 : t.val % 32 = 31) :
    (outsAt0 m c t.val t.isLt).2.2.1 = k0_pay2 (chain m c t.val t.isLt) := by
  have ht := lt_32 t
  have h0 : ¬t.val % 32 = 0 := by omega
  have hs := chain_at m c t.val t.isLt
  rw [outsAt0_C m c t h0 h1] at hs ⊢
  dsimp only at hs ⊢
  refine (out0_C_8_eq ..).trans ?_
  exact congrArg k0_pay2 ((sout0_C_1_eq ..).symm.trans hs)

/-! ## Output window 6 -/

/-- The block of the array that holds index `i`, numbered in the order the points write the blocks back (one per point),
    `i`'s place in it, and the point that writes it back. -/
abbrev run6Of (i : S4x1x8192.Idx) : ℕ := 8 * ((i 0).val / 1 - 0) + 8 * ((i 1).val / 1 - 0) + 1 * ((i 2).val / 1024 - 0)
set_option backward.proofsInPublic true in
/-- Output window 6: the place of the array's index `i` inside its block. -/
abbrev loc6Of (i : S4x1x8192.Idx) : S1x1x1024.Idx := fun a => match a with
  | ⟨0, _⟩ => ⟨(i 0).val % 1, Nat.mod_lt _ (by decide)⟩
  | ⟨1, _⟩ => ⟨(i 1).val % 1, Nat.mod_lt _ (by decide)⟩
  | ⟨2, _⟩ => ⟨(i 2).val % 1024, Nat.mod_lt _ (by decide)⟩
/-- Output window 6: the grid point that writes back the block of the array's index `i`. -/
abbrev pt6Of (i : S4x1x8192.Idx) : ℕ := run6Of i

/-- What the array ends holding: at each index, what the point that writes the index's block leaves at the index's place in it. -/
def G6 (c : Dev nD) : Buf (Elt F) ((c : Thread nD τ).loc main_v4_0) := fun i =>
  if h : pt6Of i < cfg0.N then
    (outsAt0 m c (pt6Of i) h).1 (loc6Of i)
  else V m c (Pipeline.arrRef spec0 6) i

/-- The printed index map, decided over the grid: output window 6's block indices stay in the box, and the block number
    read off them is the point's (`t`). -/
theorem idx_facts6 : ∀ t : Fin cfg0.N, 0 ≤ win0_6.index t (0 : Fin 3) ∧ win0_6.index t (0 : Fin 3) ≤ 3
    ∧ 0 ≤ win0_6.index t (1 : Fin 3) ∧ win0_6.index t (1 : Fin 3) ≤ 0
    ∧ 0 ≤ win0_6.index t (2 : Fin 3) ∧ win0_6.index t (2 : Fin 3) ≤ 7
    ∧ 8 * (win0_6.index t (0 : Fin 3) - 0) + 8 * (win0_6.index t (1 : Fin 3) - 0) + 1 * (win0_6.index t (2 : Fin 3) - 0) = t.val :=
  (by decide +kernel : ∀ t : Fin grid0.N, _)

/-- Every block of the box is SOME flushing point's: `onto6Pt`, the point that writes back the block at place `q` of the box. -/
abbrev onto6Pt (q0 : Fin 4) (q1 : Fin 1) (q2 : Fin 8) : Fin grid0.N :=
  ⟨8 * q0.val + 8 * q1.val + 1 * q2.val, lt_of_lt_of_eq (by omega) N_0.symm⟩
/-- Output window 6: every block of the array is written back by some grid point. -/
theorem idx_onto6 : ∀ (q0 : Fin 4) (q1 : Fin 1) (q2 : Fin 8), ∃ t : Fin cfg0.N, (cfg0.win 6).flush t = true ∧ win0_6.index t = ![q0.val + 0, q1.val + 0, q2.val + 0] :=
  fun q0 q1 q2 => ⟨onto6Pt q0 q1 q2, (by decide +kernel : ∀ (q0 : Fin 4) (q1 : Fin 1) (q2 : Fin 8), win0_6.flush (onto6Pt q0 q1 q2) = true ∧ win0_6.index (onto6Pt q0 q1 q2) = ![q0.val + 0, q1.val + 0, q2.val + 0]) q0 q1 q2⟩

/-- What a flushing point writes back is its block of the array's final contents. -/
theorem flushed6_eq (c : Dev nD) (t : Fin cfg0.N) (hf : (cfg0.win 6).flush t = true) :
    (dats m 0 c).flushed 6 t = ((cfg0.win 6).blk t).view.read (Elt F) (G6 m c) := by
  show (cfg0.win 6).cut (grid0.coords t) ((dats m 0 c).after 6 t) = _
  rw [after0_6]
  obtain ⟨e0, e1, e2, e3⟩ := idx_facts6 t
  funext y
  have hy0 : (y 0).val < 1 := (y 0).isLt
  have hy1 : (y 1).val < 1 := (y 1).isLt
  have hy2 : (y 2).val < 1024 := (y 2).isLt
  have hb0 : (((cfg0.win 6).blk t).view.emb y 0).val = win0_6.index t (0 : Fin 3) * 1 + 1 * (y 0).val := rfl
  have hb1 : (((cfg0.win 6).blk t).view.emb y 1).val = win0_6.index t (1 : Fin 3) * 1 + 1 * (y 1).val := rfl
  have hb2 : (((cfg0.win 6).blk t).view.emb y 2).val = win0_6.index t (2 : Fin 3) * 1024 + 1 * (y 2).val := rfl
  have hr : run6Of (((cfg0.win 6).blk t).view.emb y) = t.val := by
    show 8 * ((((cfg0.win 6).blk t).view.emb y 0).val / 1 - 0) + 8 * ((((cfg0.win 6).blk t).view.emb y 1).val / 1 - 0) + 1 * ((((cfg0.win 6).blk t).view.emb y 2).val / 1024 - 0) = _
    rw [hb0, hb1, hb2]
    rw [show (win0_6.index t (0 : Fin 3) * 1 + 1 * (y 0).val) / 1 = win0_6.index t (0 : Fin 3) from by omega]; rw [show (win0_6.index t (1 : Fin 3) * 1 + 1 * (y 1).val) / 1 = win0_6.index t (1 : Fin 3) from by omega]; rw [show (win0_6.index t (2 : Fin 3) * 1024 + 1 * (y 2).val) / 1024 = win0_6.index t (2 : Fin 3) from by omega]
    omega
  have hl : loc6Of (((cfg0.win 6).blk t).view.emb y) = (cfg0.win 6).xinj (grid0.coords t) y := by
    funext a; apply Fin.ext
    match a with
    | ⟨0, _⟩ => show (((cfg0.win 6).blk t).view.emb y 0).val % 1 = (y 0).val; rw [hb0]; omega
    | ⟨1, _⟩ => show (((cfg0.win 6).blk t).view.emb y 1).val % 1 = (y 1).val; rw [hb1]; omega
    | ⟨2, _⟩ => show (((cfg0.win 6).blk t).view.emb y 2).val % 1024 = (y 2).val; rw [hb2]; omega
  have hp : pt6Of (((cfg0.win 6).blk t).view.emb y) = t.val := by
    exact hr
  show (outsAt0 m c t.val _).1 ((cfg0.win 6).xinj (grid0.coords t) y) = G6 m c (((cfg0.win 6).blk t).view.emb y)
  unfold G6
  rw [dif_pos (by rw [hp]; exact t.isLt), hl, outsAt0_congr m c _ _ _ _ hp.symm]

/-- An index of the array is in point `t`'s block iff each coordinate is in the block's range on its axis. -/
theorem mem_blk6 (t : Fin cfg0.N) (i : S4x1x8192.Idx) :
    i ∈ ((cfg0.win 6).blk t).view.set ↔ ∀ a : Fin 3, win0_6.index t a * S1x1x1024.size a ≤ (i a).val ∧ (i a).val < win0_6.index t a * S1x1x1024.size a + S1x1x1024.size a := by
  show i ∈ ((View.whole main_v4_0).slice (win0_6.rect t)).set ↔ _
  rw [View.set_slice_whole, Rect.mem_set_unit]
  exact Iff.rfl

/-- THE COVERED INDICES: in some flushing point's block iff inside the box those blocks fill. -/
theorem covered_iff6 (i : S4x1x8192.Idx) :
    (∃ t : Fin cfg0.N, (cfg0.win 6).flush t = true ∧ i ∈ ((cfg0.win 6).blk t).view.set) ↔ 0 ≤ (i 0).val ∧ (i 0).val < 4 ∧ 0 ≤ (i 1).val ∧ (i 1).val < 1 ∧ 0 ≤ (i 2).val ∧ (i 2).val < 8192 := by
  constructor
  · rintro ⟨t, -, hi⟩
    rw [mem_blk6] at hi
    have b0 : win0_6.index t (0 : Fin 3) * 1 ≤ (i 0).val ∧ (i 0).val < win0_6.index t (0 : Fin 3) * 1 + 1 := hi 0
    have b1 : win0_6.index t (1 : Fin 3) * 1 ≤ (i 1).val ∧ (i 1).val < win0_6.index t (1 : Fin 3) * 1 + 1 := hi 1
    have b2 : win0_6.index t (2 : Fin 3) * 1024 ≤ (i 2).val ∧ (i 2).val < win0_6.index t (2 : Fin 3) * 1024 + 1024 := hi 2
    obtain ⟨e0, e1, e2, e3⟩ := idx_facts6 t
    omega
  · intro h
    have hi0 : (i 0).val < 4 := (i 0).isLt
    have hi1 : (i 1).val < 1 := (i 1).isLt
    have hi2 : (i 2).val < 8192 := (i 2).isLt
    obtain ⟨t, hft, ht⟩ := idx_onto6 ⟨(i 0).val / 1 - 0, by omega⟩ ⟨(i 1).val / 1 - 0, by omega⟩ ⟨(i 2).val / 1024 - 0, by omega⟩
    have q0 : win0_6.index t (0 : Fin 3) = (i 0).val / 1 - 0 + 0 := congrFun ht 0
    have q1 : win0_6.index t (1 : Fin 3) = (i 1).val / 1 - 0 + 0 := congrFun ht 1
    have q2 : win0_6.index t (2 : Fin 3) = (i 2).val / 1024 - 0 + 0 := congrFun ht 2
    refine ⟨t, hft, ?_⟩
    rw [mem_blk6]
    intro a
    match a with
    | ⟨0, _⟩ => show win0_6.index t (0 : Fin 3) * 1 ≤ (i 0).val ∧ (i 0).val < win0_6.index t (0 : Fin 3) * 1 + 1; omega
    | ⟨1, _⟩ => show win0_6.index t (1 : Fin 3) * 1 ≤ (i 1).val ∧ (i 1).val < win0_6.index t (1 : Fin 3) * 1 + 1; omega
    | ⟨2, _⟩ => show win0_6.index t (2 : Fin 3) * 1024 ≤ (i 2).val ∧ (i 2).val < win0_6.index t (2 : Fin 3) * 1024 + 1024; omega

/-- THE ARRAY after the run: `G6` (the flushing blocks tile it). -/
theorem final6 (c : Dev nD) : (dats m 0 c).arrAt 6 cfg0.N = G6 m c :=
  (dats m 0 c).arrAt_eq_of_cover 6 _ (fun t hf => flushed6_eq m c t hf) (fun i => (covered_iff6 i).2 (by
    have h0 : (i 0).val < 4 := (i 0).isLt; have h1 : (i 1).val < 1 := (i 1).isLt; have h2 : (i 2).val < 8192 := (i 2).isLt; omega))

/-! ## Output window 7 -/

/-- The block of the array that holds index `i`, numbered in the order the points write the blocks back (one per point),
    `i`'s place in it, and the point that writes it back. -/
abbrev run7Of (i : S4x1x8192.Idx) : ℕ := 8 * ((i 0).val / 1 - 0) + 8 * ((i 1).val / 1 - 0) + 1 * ((i 2).val / 1024 - 0)
set_option backward.proofsInPublic true in
/-- Output window 7: the place of the array's index `i` inside its block. -/
abbrev loc7Of (i : S4x1x8192.Idx) : S1x1x1024.Idx := fun a => match a with
  | ⟨0, _⟩ => ⟨(i 0).val % 1, Nat.mod_lt _ (by decide)⟩
  | ⟨1, _⟩ => ⟨(i 1).val % 1, Nat.mod_lt _ (by decide)⟩
  | ⟨2, _⟩ => ⟨(i 2).val % 1024, Nat.mod_lt _ (by decide)⟩
/-- Output window 7: the grid point that writes back the block of the array's index `i`. -/
abbrev pt7Of (i : S4x1x8192.Idx) : ℕ := run7Of i

/-- What the array ends holding: at each index, what the point that writes the index's block leaves at the index's place in it. -/
def G7 (c : Dev nD) : Buf (Elt F) ((c : Thread nD τ).loc main_v4_1) := fun i =>
  if h : pt7Of i < cfg0.N then
    (outsAt0 m c (pt7Of i) h).2.1 (loc7Of i)
  else V m c (Pipeline.arrRef spec0 7) i

/-- The printed index map, decided over the grid: output window 7's block indices stay in the box, and the block number
    read off them is the point's (`t`). -/
theorem idx_facts7 : ∀ t : Fin cfg0.N, 0 ≤ win0_7.index t (0 : Fin 3) ∧ win0_7.index t (0 : Fin 3) ≤ 3
    ∧ 0 ≤ win0_7.index t (1 : Fin 3) ∧ win0_7.index t (1 : Fin 3) ≤ 0
    ∧ 0 ≤ win0_7.index t (2 : Fin 3) ∧ win0_7.index t (2 : Fin 3) ≤ 7
    ∧ 8 * (win0_7.index t (0 : Fin 3) - 0) + 8 * (win0_7.index t (1 : Fin 3) - 0) + 1 * (win0_7.index t (2 : Fin 3) - 0) = t.val :=
  (by decide +kernel : ∀ t : Fin grid0.N, _)

/-- Every block of the box is SOME flushing point's: `onto7Pt`, the point that writes back the block at place `q` of the box. -/
abbrev onto7Pt (q0 : Fin 4) (q1 : Fin 1) (q2 : Fin 8) : Fin grid0.N :=
  ⟨8 * q0.val + 8 * q1.val + 1 * q2.val, lt_of_lt_of_eq (by omega) N_0.symm⟩
/-- Output window 7: every block of the array is written back by some grid point. -/
theorem idx_onto7 : ∀ (q0 : Fin 4) (q1 : Fin 1) (q2 : Fin 8), ∃ t : Fin cfg0.N, (cfg0.win 7).flush t = true ∧ win0_7.index t = ![q0.val + 0, q1.val + 0, q2.val + 0] :=
  fun q0 q1 q2 => ⟨onto7Pt q0 q1 q2, (by decide +kernel : ∀ (q0 : Fin 4) (q1 : Fin 1) (q2 : Fin 8), win0_7.flush (onto7Pt q0 q1 q2) = true ∧ win0_7.index (onto7Pt q0 q1 q2) = ![q0.val + 0, q1.val + 0, q2.val + 0]) q0 q1 q2⟩

/-- What a flushing point writes back is its block of the array's final contents. -/
theorem flushed7_eq (c : Dev nD) (t : Fin cfg0.N) (hf : (cfg0.win 7).flush t = true) :
    (dats m 0 c).flushed 7 t = ((cfg0.win 7).blk t).view.read (Elt F) (G7 m c) := by
  show (cfg0.win 7).cut (grid0.coords t) ((dats m 0 c).after 7 t) = _
  rw [after0_7]
  obtain ⟨e0, e1, e2, e3⟩ := idx_facts7 t
  funext y
  have hy0 : (y 0).val < 1 := (y 0).isLt
  have hy1 : (y 1).val < 1 := (y 1).isLt
  have hy2 : (y 2).val < 1024 := (y 2).isLt
  have hb0 : (((cfg0.win 7).blk t).view.emb y 0).val = win0_7.index t (0 : Fin 3) * 1 + 1 * (y 0).val := rfl
  have hb1 : (((cfg0.win 7).blk t).view.emb y 1).val = win0_7.index t (1 : Fin 3) * 1 + 1 * (y 1).val := rfl
  have hb2 : (((cfg0.win 7).blk t).view.emb y 2).val = win0_7.index t (2 : Fin 3) * 1024 + 1 * (y 2).val := rfl
  have hr : run7Of (((cfg0.win 7).blk t).view.emb y) = t.val := by
    show 8 * ((((cfg0.win 7).blk t).view.emb y 0).val / 1 - 0) + 8 * ((((cfg0.win 7).blk t).view.emb y 1).val / 1 - 0) + 1 * ((((cfg0.win 7).blk t).view.emb y 2).val / 1024 - 0) = _
    rw [hb0, hb1, hb2]
    rw [show (win0_7.index t (0 : Fin 3) * 1 + 1 * (y 0).val) / 1 = win0_7.index t (0 : Fin 3) from by omega]; rw [show (win0_7.index t (1 : Fin 3) * 1 + 1 * (y 1).val) / 1 = win0_7.index t (1 : Fin 3) from by omega]; rw [show (win0_7.index t (2 : Fin 3) * 1024 + 1 * (y 2).val) / 1024 = win0_7.index t (2 : Fin 3) from by omega]
    omega
  have hl : loc7Of (((cfg0.win 7).blk t).view.emb y) = (cfg0.win 7).xinj (grid0.coords t) y := by
    funext a; apply Fin.ext
    match a with
    | ⟨0, _⟩ => show (((cfg0.win 7).blk t).view.emb y 0).val % 1 = (y 0).val; rw [hb0]; omega
    | ⟨1, _⟩ => show (((cfg0.win 7).blk t).view.emb y 1).val % 1 = (y 1).val; rw [hb1]; omega
    | ⟨2, _⟩ => show (((cfg0.win 7).blk t).view.emb y 2).val % 1024 = (y 2).val; rw [hb2]; omega
  have hp : pt7Of (((cfg0.win 7).blk t).view.emb y) = t.val := by
    exact hr
  show (outsAt0 m c t.val _).2.1 ((cfg0.win 7).xinj (grid0.coords t) y) = G7 m c (((cfg0.win 7).blk t).view.emb y)
  unfold G7
  rw [dif_pos (by rw [hp]; exact t.isLt), hl, outsAt0_congr m c _ _ _ _ hp.symm]

/-- An index of the array is in point `t`'s block iff each coordinate is in the block's range on its axis. -/
theorem mem_blk7 (t : Fin cfg0.N) (i : S4x1x8192.Idx) :
    i ∈ ((cfg0.win 7).blk t).view.set ↔ ∀ a : Fin 3, win0_7.index t a * S1x1x1024.size a ≤ (i a).val ∧ (i a).val < win0_7.index t a * S1x1x1024.size a + S1x1x1024.size a := by
  show i ∈ ((View.whole main_v4_1).slice (win0_7.rect t)).set ↔ _
  rw [View.set_slice_whole, Rect.mem_set_unit]
  exact Iff.rfl

/-- THE COVERED INDICES: in some flushing point's block iff inside the box those blocks fill. -/
theorem covered_iff7 (i : S4x1x8192.Idx) :
    (∃ t : Fin cfg0.N, (cfg0.win 7).flush t = true ∧ i ∈ ((cfg0.win 7).blk t).view.set) ↔ 0 ≤ (i 0).val ∧ (i 0).val < 4 ∧ 0 ≤ (i 1).val ∧ (i 1).val < 1 ∧ 0 ≤ (i 2).val ∧ (i 2).val < 8192 := by
  constructor
  · rintro ⟨t, -, hi⟩
    rw [mem_blk7] at hi
    have b0 : win0_7.index t (0 : Fin 3) * 1 ≤ (i 0).val ∧ (i 0).val < win0_7.index t (0 : Fin 3) * 1 + 1 := hi 0
    have b1 : win0_7.index t (1 : Fin 3) * 1 ≤ (i 1).val ∧ (i 1).val < win0_7.index t (1 : Fin 3) * 1 + 1 := hi 1
    have b2 : win0_7.index t (2 : Fin 3) * 1024 ≤ (i 2).val ∧ (i 2).val < win0_7.index t (2 : Fin 3) * 1024 + 1024 := hi 2
    obtain ⟨e0, e1, e2, e3⟩ := idx_facts7 t
    omega
  · intro h
    have hi0 : (i 0).val < 4 := (i 0).isLt
    have hi1 : (i 1).val < 1 := (i 1).isLt
    have hi2 : (i 2).val < 8192 := (i 2).isLt
    obtain ⟨t, hft, ht⟩ := idx_onto7 ⟨(i 0).val / 1 - 0, by omega⟩ ⟨(i 1).val / 1 - 0, by omega⟩ ⟨(i 2).val / 1024 - 0, by omega⟩
    have q0 : win0_7.index t (0 : Fin 3) = (i 0).val / 1 - 0 + 0 := congrFun ht 0
    have q1 : win0_7.index t (1 : Fin 3) = (i 1).val / 1 - 0 + 0 := congrFun ht 1
    have q2 : win0_7.index t (2 : Fin 3) = (i 2).val / 1024 - 0 + 0 := congrFun ht 2
    refine ⟨t, hft, ?_⟩
    rw [mem_blk7]
    intro a
    match a with
    | ⟨0, _⟩ => show win0_7.index t (0 : Fin 3) * 1 ≤ (i 0).val ∧ (i 0).val < win0_7.index t (0 : Fin 3) * 1 + 1; omega
    | ⟨1, _⟩ => show win0_7.index t (1 : Fin 3) * 1 ≤ (i 1).val ∧ (i 1).val < win0_7.index t (1 : Fin 3) * 1 + 1; omega
    | ⟨2, _⟩ => show win0_7.index t (2 : Fin 3) * 1024 ≤ (i 2).val ∧ (i 2).val < win0_7.index t (2 : Fin 3) * 1024 + 1024; omega

/-- THE ARRAY after the run: `G7` (the flushing blocks tile it). -/
theorem final7 (c : Dev nD) : (dats m 0 c).arrAt 7 cfg0.N = G7 m c :=
  (dats m 0 c).arrAt_eq_of_cover 7 _ (fun t hf => flushed7_eq m c t hf) (fun i => (covered_iff7 i).2 (by
    have h0 : (i 0).val < 4 := (i 0).isLt; have h1 : (i 1).val < 1 := (i 1).isLt; have h2 : (i 2).val < 8192 := (i 2).isLt; omega))

/-! ## Output window 8 -/

/-- The block of the array that holds index `i`, numbered in the order the points write the blocks back (one every 32 points),
    `i`'s place in it, and the point that writes it back (the last of its 32). -/
abbrev run8Of (i : S1x8.Idx) : ℕ := 1 * ((i 0).val / 1 - 0) + 1 * ((i 1).val / 8 - 0)
set_option backward.proofsInPublic true in
/-- Output window 8: the place of the array's index `i` inside its block. -/
abbrev loc8Of (i : S1x8.Idx) : S1x8.Idx := fun a => match a with
  | ⟨0, _⟩ => ⟨(i 0).val % 1, Nat.mod_lt _ (by decide)⟩
  | ⟨1, _⟩ => ⟨(i 1).val % 8, Nat.mod_lt _ (by decide)⟩
/-- Output window 8: the grid point that writes back the block of the array's index `i`. -/
abbrev pt8Of (i : S1x8.Idx) : ℕ := 32 * run8Of i + 31

/-- What the array ends holding: at each index, what the point that writes the index's block leaves at the index's place in it. -/
def G8 (c : Dev nD) : Buf (Elt F) ((c : Thread nD τ).loc main_v4_2) := fun i =>
  if h : pt8Of i < cfg0.N then
    (outsAt0 m c (pt8Of i) h).2.2.1 (loc8Of i)
  else V m c (Pipeline.arrRef spec0 8) i

/-- The printed index map, decided over the grid: output window 8's block indices stay in the box, and the block number
    read off them is the point's (`t / 32`). -/
theorem idx_facts8 : ∀ t : Fin cfg0.N, 0 ≤ win0_8.index t (0 : Fin 2) ∧ win0_8.index t (0 : Fin 2) ≤ 0
    ∧ 0 ≤ win0_8.index t (1 : Fin 2) ∧ win0_8.index t (1 : Fin 2) ≤ 0
    ∧ 1 * (win0_8.index t (0 : Fin 2) - 0) + 1 * (win0_8.index t (1 : Fin 2) - 0) = t.val / 32 :=
  (by decide +kernel : ∀ t : Fin grid0.N, _)

/-- Every block of the box is SOME flushing point's: `onto8Pt`, the point that writes back the block at place `q` of the box (the last point of its run). -/
abbrev onto8Pt (q0 : Fin 1) (q1 : Fin 1) : Fin grid0.N :=
  ⟨32 * (1 * q0.val + 1 * q1.val) + 31, lt_of_lt_of_eq (by omega) N_0.symm⟩
/-- Output window 8: every block of the array is written back by some grid point. -/
theorem idx_onto8 : ∀ (q0 : Fin 1) (q1 : Fin 1), ∃ t : Fin cfg0.N, (cfg0.win 8).flush t = true ∧ win0_8.index t = ![q0.val + 0, q1.val + 0] :=
  fun q0 q1 => ⟨onto8Pt q0 q1, (by decide +kernel : ∀ (q0 : Fin 1) (q1 : Fin 1), win0_8.flush (onto8Pt q0 q1) = true ∧ win0_8.index (onto8Pt q0 q1) = ![q0.val + 0, q1.val + 0]) q0 q1⟩

/-- What a flushing point writes back is its block of the array's final contents. -/
theorem flushed8_eq (c : Dev nD) (t : Fin cfg0.N) (hf : (cfg0.win 8).flush t = true) :
    (dats m 0 c).flushed 8 t = ((cfg0.win 8).blk t).view.read (Elt F) (G8 m c) := by
  show (cfg0.win 8).cut (grid0.coords t) ((dats m 0 c).after 8 t) = _
  rw [after0_8]
  have hm : t.val % 32 = 31 := (flush0_8 t).mp hf
  obtain ⟨e0, e1, e2⟩ := idx_facts8 t
  funext y
  have hy0 : (y 0).val < 1 := (y 0).isLt
  have hy1 : (y 1).val < 8 := (y 1).isLt
  have hb0 : (((cfg0.win 8).blk t).view.emb y 0).val = win0_8.index t (0 : Fin 2) * 1 + 1 * (y 0).val := rfl
  have hb1 : (((cfg0.win 8).blk t).view.emb y 1).val = win0_8.index t (1 : Fin 2) * 8 + 1 * (y 1).val := rfl
  have hr : run8Of (((cfg0.win 8).blk t).view.emb y) = t.val / 32 := by
    show 1 * ((((cfg0.win 8).blk t).view.emb y 0).val / 1 - 0) + 1 * ((((cfg0.win 8).blk t).view.emb y 1).val / 8 - 0) = _
    rw [hb0, hb1]
    rw [show (win0_8.index t (0 : Fin 2) * 1 + 1 * (y 0).val) / 1 = win0_8.index t (0 : Fin 2) from by omega]; rw [show (win0_8.index t (1 : Fin 2) * 8 + 1 * (y 1).val) / 8 = win0_8.index t (1 : Fin 2) from by omega]
    omega
  have hl : loc8Of (((cfg0.win 8).blk t).view.emb y) = (cfg0.win 8).xinj (grid0.coords t) y := by
    funext a; apply Fin.ext
    match a with
    | ⟨0, _⟩ => show (((cfg0.win 8).blk t).view.emb y 0).val % 1 = (y 0).val; rw [hb0]; omega
    | ⟨1, _⟩ => show (((cfg0.win 8).blk t).view.emb y 1).val % 8 = (y 1).val; rw [hb1]; omega
  have hp : pt8Of (((cfg0.win 8).blk t).view.emb y) = t.val := by
    show 32 * run8Of (((cfg0.win 8).blk t).view.emb y) + 31 = _
    rw [hr]; have := Nat.div_add_mod t.val 32; omega
  show (outsAt0 m c t.val _).2.2.1 ((cfg0.win 8).xinj (grid0.coords t) y) = G8 m c (((cfg0.win 8).blk t).view.emb y)
  unfold G8
  rw [dif_pos (by rw [hp]; exact t.isLt), hl, outsAt0_congr m c _ _ _ _ hp.symm]

/-- An index of the array is in point `t`'s block iff each coordinate is in the block's range on its axis. -/
theorem mem_blk8 (t : Fin cfg0.N) (i : S1x8.Idx) :
    i ∈ ((cfg0.win 8).blk t).view.set ↔ ∀ a : Fin 2, win0_8.index t a * S1x8.size a ≤ (i a).val ∧ (i a).val < win0_8.index t a * S1x8.size a + S1x8.size a := by
  show i ∈ ((View.whole main_v4_2).slice (win0_8.rect t)).set ↔ _
  rw [View.set_slice_whole, Rect.mem_set_unit]
  exact Iff.rfl

/-- THE COVERED INDICES: in some flushing point's block iff inside the box those blocks fill. -/
theorem covered_iff8 (i : S1x8.Idx) :
    (∃ t : Fin cfg0.N, (cfg0.win 8).flush t = true ∧ i ∈ ((cfg0.win 8).blk t).view.set) ↔ 0 ≤ (i 0).val ∧ (i 0).val < 1 ∧ 0 ≤ (i 1).val ∧ (i 1).val < 8 := by
  constructor
  · rintro ⟨t, -, hi⟩
    rw [mem_blk8] at hi
    have b0 : win0_8.index t (0 : Fin 2) * 1 ≤ (i 0).val ∧ (i 0).val < win0_8.index t (0 : Fin 2) * 1 + 1 := hi 0
    have b1 : win0_8.index t (1 : Fin 2) * 8 ≤ (i 1).val ∧ (i 1).val < win0_8.index t (1 : Fin 2) * 8 + 8 := hi 1
    obtain ⟨e0, e1, e2⟩ := idx_facts8 t
    omega
  · intro h
    have hi0 : (i 0).val < 1 := (i 0).isLt
    have hi1 : (i 1).val < 8 := (i 1).isLt
    obtain ⟨t, hft, ht⟩ := idx_onto8 ⟨(i 0).val / 1 - 0, by omega⟩ ⟨(i 1).val / 8 - 0, by omega⟩
    have q0 : win0_8.index t (0 : Fin 2) = (i 0).val / 1 - 0 + 0 := congrFun ht 0
    have q1 : win0_8.index t (1 : Fin 2) = (i 1).val / 8 - 0 + 0 := congrFun ht 1
    refine ⟨t, hft, ?_⟩
    rw [mem_blk8]
    intro a
    match a with
    | ⟨0, _⟩ => show win0_8.index t (0 : Fin 2) * 1 ≤ (i 0).val ∧ (i 0).val < win0_8.index t (0 : Fin 2) * 1 + 1; omega
    | ⟨1, _⟩ => show win0_8.index t (1 : Fin 2) * 8 ≤ (i 1).val ∧ (i 1).val < win0_8.index t (1 : Fin 2) * 8 + 8; omega

/-- THE ARRAY after the run: `G8` (the flushing blocks tile it). -/
theorem final8 (c : Dev nD) : (dats m 0 c).arrAt 8 cfg0.N = G8 m c :=
  (dats m 0 c).arrAt_eq_of_cover 8 _ (fun t hf => flushed8_eq m c t hf) (fun i => (covered_iff8 i).2 (by
    have h0 : (i 0).val < 1 := (i 0).isLt; have h1 : (i 1).val < 8 := (i 1).isLt; omega))

/-! ## Output window 9 -/

/-- The block of the array that holds index `i`, numbered in the order the points write the blocks back (one per point),
    `i`'s place in it, and the point that writes it back. -/
abbrev run9Of (i : S4x1x8192.Idx) : ℕ := 8 * ((i 0).val / 1 - 0) + 8 * ((i 1).val / 1 - 0) + 1 * ((i 2).val / 1024 - 0)
set_option backward.proofsInPublic true in
/-- Output window 9: the place of the array's index `i` inside its block. -/
abbrev loc9Of (i : S4x1x8192.Idx) : S1x1x1024.Idx := fun a => match a with
  | ⟨0, _⟩ => ⟨(i 0).val % 1, Nat.mod_lt _ (by decide)⟩
  | ⟨1, _⟩ => ⟨(i 1).val % 1, Nat.mod_lt _ (by decide)⟩
  | ⟨2, _⟩ => ⟨(i 2).val % 1024, Nat.mod_lt _ (by decide)⟩
/-- Output window 9: the grid point that writes back the block of the array's index `i`. -/
abbrev pt9Of (i : S4x1x8192.Idx) : ℕ := run9Of i

/-- What the array ends holding: at each index, what the point that writes the index's block leaves at the index's place in it. -/
def G9 (c : Dev nD) : Buf (Elt F) ((c : Thread nD τ).loc main_v4_3) := fun i =>
  if h : pt9Of i < cfg0.N then
    (outsAt0 m c (pt9Of i) h).2.2.2.1 (loc9Of i)
  else V m c (Pipeline.arrRef spec0 9) i

/-- The printed index map, decided over the grid: output window 9's block indices stay in the box, and the block number
    read off them is the point's (`t`). -/
theorem idx_facts9 : ∀ t : Fin cfg0.N, 0 ≤ win0_9.index t (0 : Fin 3) ∧ win0_9.index t (0 : Fin 3) ≤ 3
    ∧ 0 ≤ win0_9.index t (1 : Fin 3) ∧ win0_9.index t (1 : Fin 3) ≤ 0
    ∧ 0 ≤ win0_9.index t (2 : Fin 3) ∧ win0_9.index t (2 : Fin 3) ≤ 7
    ∧ 8 * (win0_9.index t (0 : Fin 3) - 0) + 8 * (win0_9.index t (1 : Fin 3) - 0) + 1 * (win0_9.index t (2 : Fin 3) - 0) = t.val :=
  (by decide +kernel : ∀ t : Fin grid0.N, _)

/-- Every block of the box is SOME flushing point's: `onto9Pt`, the point that writes back the block at place `q` of the box. -/
abbrev onto9Pt (q0 : Fin 4) (q1 : Fin 1) (q2 : Fin 8) : Fin grid0.N :=
  ⟨8 * q0.val + 8 * q1.val + 1 * q2.val, lt_of_lt_of_eq (by omega) N_0.symm⟩
/-- Output window 9: every block of the array is written back by some grid point. -/
theorem idx_onto9 : ∀ (q0 : Fin 4) (q1 : Fin 1) (q2 : Fin 8), ∃ t : Fin cfg0.N, (cfg0.win 9).flush t = true ∧ win0_9.index t = ![q0.val + 0, q1.val + 0, q2.val + 0] :=
  fun q0 q1 q2 => ⟨onto9Pt q0 q1 q2, (by decide +kernel : ∀ (q0 : Fin 4) (q1 : Fin 1) (q2 : Fin 8), win0_9.flush (onto9Pt q0 q1 q2) = true ∧ win0_9.index (onto9Pt q0 q1 q2) = ![q0.val + 0, q1.val + 0, q2.val + 0]) q0 q1 q2⟩

/-- What a flushing point writes back is its block of the array's final contents. -/
theorem flushed9_eq (c : Dev nD) (t : Fin cfg0.N) (hf : (cfg0.win 9).flush t = true) :
    (dats m 0 c).flushed 9 t = ((cfg0.win 9).blk t).view.read (Elt F) (G9 m c) := by
  show (cfg0.win 9).cut (grid0.coords t) ((dats m 0 c).after 9 t) = _
  rw [after0_9]
  obtain ⟨e0, e1, e2, e3⟩ := idx_facts9 t
  funext y
  have hy0 : (y 0).val < 1 := (y 0).isLt
  have hy1 : (y 1).val < 1 := (y 1).isLt
  have hy2 : (y 2).val < 1024 := (y 2).isLt
  have hb0 : (((cfg0.win 9).blk t).view.emb y 0).val = win0_9.index t (0 : Fin 3) * 1 + 1 * (y 0).val := rfl
  have hb1 : (((cfg0.win 9).blk t).view.emb y 1).val = win0_9.index t (1 : Fin 3) * 1 + 1 * (y 1).val := rfl
  have hb2 : (((cfg0.win 9).blk t).view.emb y 2).val = win0_9.index t (2 : Fin 3) * 1024 + 1 * (y 2).val := rfl
  have hr : run9Of (((cfg0.win 9).blk t).view.emb y) = t.val := by
    show 8 * ((((cfg0.win 9).blk t).view.emb y 0).val / 1 - 0) + 8 * ((((cfg0.win 9).blk t).view.emb y 1).val / 1 - 0) + 1 * ((((cfg0.win 9).blk t).view.emb y 2).val / 1024 - 0) = _
    rw [hb0, hb1, hb2]
    rw [show (win0_9.index t (0 : Fin 3) * 1 + 1 * (y 0).val) / 1 = win0_9.index t (0 : Fin 3) from by omega]; rw [show (win0_9.index t (1 : Fin 3) * 1 + 1 * (y 1).val) / 1 = win0_9.index t (1 : Fin 3) from by omega]; rw [show (win0_9.index t (2 : Fin 3) * 1024 + 1 * (y 2).val) / 1024 = win0_9.index t (2 : Fin 3) from by omega]
    omega
  have hl : loc9Of (((cfg0.win 9).blk t).view.emb y) = (cfg0.win 9).xinj (grid0.coords t) y := by
    funext a; apply Fin.ext
    match a with
    | ⟨0, _⟩ => show (((cfg0.win 9).blk t).view.emb y 0).val % 1 = (y 0).val; rw [hb0]; omega
    | ⟨1, _⟩ => show (((cfg0.win 9).blk t).view.emb y 1).val % 1 = (y 1).val; rw [hb1]; omega
    | ⟨2, _⟩ => show (((cfg0.win 9).blk t).view.emb y 2).val % 1024 = (y 2).val; rw [hb2]; omega
  have hp : pt9Of (((cfg0.win 9).blk t).view.emb y) = t.val := by
    exact hr
  show (outsAt0 m c t.val _).2.2.2.1 ((cfg0.win 9).xinj (grid0.coords t) y) = G9 m c (((cfg0.win 9).blk t).view.emb y)
  unfold G9
  rw [dif_pos (by rw [hp]; exact t.isLt), hl, outsAt0_congr m c _ _ _ _ hp.symm]

/-- An index of the array is in point `t`'s block iff each coordinate is in the block's range on its axis. -/
theorem mem_blk9 (t : Fin cfg0.N) (i : S4x1x8192.Idx) :
    i ∈ ((cfg0.win 9).blk t).view.set ↔ ∀ a : Fin 3, win0_9.index t a * S1x1x1024.size a ≤ (i a).val ∧ (i a).val < win0_9.index t a * S1x1x1024.size a + S1x1x1024.size a := by
  show i ∈ ((View.whole main_v4_3).slice (win0_9.rect t)).set ↔ _
  rw [View.set_slice_whole, Rect.mem_set_unit]
  exact Iff.rfl

/-- THE COVERED INDICES: in some flushing point's block iff inside the box those blocks fill. -/
theorem covered_iff9 (i : S4x1x8192.Idx) :
    (∃ t : Fin cfg0.N, (cfg0.win 9).flush t = true ∧ i ∈ ((cfg0.win 9).blk t).view.set) ↔ 0 ≤ (i 0).val ∧ (i 0).val < 4 ∧ 0 ≤ (i 1).val ∧ (i 1).val < 1 ∧ 0 ≤ (i 2).val ∧ (i 2).val < 8192 := by
  constructor
  · rintro ⟨t, -, hi⟩
    rw [mem_blk9] at hi
    have b0 : win0_9.index t (0 : Fin 3) * 1 ≤ (i 0).val ∧ (i 0).val < win0_9.index t (0 : Fin 3) * 1 + 1 := hi 0
    have b1 : win0_9.index t (1 : Fin 3) * 1 ≤ (i 1).val ∧ (i 1).val < win0_9.index t (1 : Fin 3) * 1 + 1 := hi 1
    have b2 : win0_9.index t (2 : Fin 3) * 1024 ≤ (i 2).val ∧ (i 2).val < win0_9.index t (2 : Fin 3) * 1024 + 1024 := hi 2
    obtain ⟨e0, e1, e2, e3⟩ := idx_facts9 t
    omega
  · intro h
    have hi0 : (i 0).val < 4 := (i 0).isLt
    have hi1 : (i 1).val < 1 := (i 1).isLt
    have hi2 : (i 2).val < 8192 := (i 2).isLt
    obtain ⟨t, hft, ht⟩ := idx_onto9 ⟨(i 0).val / 1 - 0, by omega⟩ ⟨(i 1).val / 1 - 0, by omega⟩ ⟨(i 2).val / 1024 - 0, by omega⟩
    have q0 : win0_9.index t (0 : Fin 3) = (i 0).val / 1 - 0 + 0 := congrFun ht 0
    have q1 : win0_9.index t (1 : Fin 3) = (i 1).val / 1 - 0 + 0 := congrFun ht 1
    have q2 : win0_9.index t (2 : Fin 3) = (i 2).val / 1024 - 0 + 0 := congrFun ht 2
    refine ⟨t, hft, ?_⟩
    rw [mem_blk9]
    intro a
    match a with
    | ⟨0, _⟩ => show win0_9.index t (0 : Fin 3) * 1 ≤ (i 0).val ∧ (i 0).val < win0_9.index t (0 : Fin 3) * 1 + 1; omega
    | ⟨1, _⟩ => show win0_9.index t (1 : Fin 3) * 1 ≤ (i 1).val ∧ (i 1).val < win0_9.index t (1 : Fin 3) * 1 + 1; omega
    | ⟨2, _⟩ => show win0_9.index t (2 : Fin 3) * 1024 ≤ (i 2).val ∧ (i 2).val < win0_9.index t (2 : Fin 3) * 1024 + 1024; omega

/-- THE ARRAY after the run: `G9` (the flushing blocks tile it). -/
theorem final9 (c : Dev nD) : (dats m 0 c).arrAt 9 cfg0.N = G9 m c :=
  (dats m 0 c).arrAt_eq_of_cover 9 _ (fun t hf => flushed9_eq m c t hf) (fun i => (covered_iff9 i).2 (by
    have h0 : (i 0).val < 4 := (i 0).isLt; have h1 : (i 1).val < 1 := (i 1).isLt; have h2 : (i 2).val < 8192 := (i 2).isLt; omega))

/-! ## Output window 10 -/

/-- The block of the array that holds index `i`, numbered in the order the points write the blocks back (one per point),
    `i`'s place in it, and the point that writes it back. -/
abbrev run10Of (i : S4x8x8192.Idx) : ℕ := 8 * ((i 0).val / 1 - 0) + 8 * ((i 1).val / 8 - 0) + 1 * ((i 2).val / 1024 - 0)
set_option backward.proofsInPublic true in
/-- Output window 10: the place of the array's index `i` inside its block. -/
abbrev loc10Of (i : S4x8x8192.Idx) : S1x8x1024.Idx := fun a => match a with
  | ⟨0, _⟩ => ⟨(i 0).val % 1, Nat.mod_lt _ (by decide)⟩
  | ⟨1, _⟩ => ⟨(i 1).val % 8, Nat.mod_lt _ (by decide)⟩
  | ⟨2, _⟩ => ⟨(i 2).val % 1024, Nat.mod_lt _ (by decide)⟩
/-- Output window 10: the grid point that writes back the block of the array's index `i`. -/
abbrev pt10Of (i : S4x8x8192.Idx) : ℕ := run10Of i

/-- What the array ends holding: at each index, what the point that writes the index's block leaves at the index's place in it. -/
def G10 (c : Dev nD) : Buf (Elt F) ((c : Thread nD τ).loc main_v4_4) := fun i =>
  if h : pt10Of i < cfg0.N then
    (outsAt0 m c (pt10Of i) h).2.2.2.2.1 (loc10Of i)
  else V m c (Pipeline.arrRef spec0 10) i

/-- The printed index map, decided over the grid: output window 10's block indices stay in the box, and the block number
    read off them is the point's (`t`). -/
theorem idx_facts10 : ∀ t : Fin cfg0.N, 0 ≤ win0_10.index t (0 : Fin 3) ∧ win0_10.index t (0 : Fin 3) ≤ 3
    ∧ 0 ≤ win0_10.index t (1 : Fin 3) ∧ win0_10.index t (1 : Fin 3) ≤ 0
    ∧ 0 ≤ win0_10.index t (2 : Fin 3) ∧ win0_10.index t (2 : Fin 3) ≤ 7
    ∧ 8 * (win0_10.index t (0 : Fin 3) - 0) + 8 * (win0_10.index t (1 : Fin 3) - 0) + 1 * (win0_10.index t (2 : Fin 3) - 0) = t.val :=
  (by decide +kernel : ∀ t : Fin grid0.N, _)

/-- Every block of the box is SOME flushing point's: `onto10Pt`, the point that writes back the block at place `q` of the box. -/
abbrev onto10Pt (q0 : Fin 4) (q1 : Fin 1) (q2 : Fin 8) : Fin grid0.N :=
  ⟨8 * q0.val + 8 * q1.val + 1 * q2.val, lt_of_lt_of_eq (by omega) N_0.symm⟩
/-- Output window 10: every block of the array is written back by some grid point. -/
theorem idx_onto10 : ∀ (q0 : Fin 4) (q1 : Fin 1) (q2 : Fin 8), ∃ t : Fin cfg0.N, (cfg0.win 10).flush t = true ∧ win0_10.index t = ![q0.val + 0, q1.val + 0, q2.val + 0] :=
  fun q0 q1 q2 => ⟨onto10Pt q0 q1 q2, (by decide +kernel : ∀ (q0 : Fin 4) (q1 : Fin 1) (q2 : Fin 8), win0_10.flush (onto10Pt q0 q1 q2) = true ∧ win0_10.index (onto10Pt q0 q1 q2) = ![q0.val + 0, q1.val + 0, q2.val + 0]) q0 q1 q2⟩

/-- What a flushing point writes back is its block of the array's final contents. -/
theorem flushed10_eq (c : Dev nD) (t : Fin cfg0.N) (hf : (cfg0.win 10).flush t = true) :
    (dats m 0 c).flushed 10 t = ((cfg0.win 10).blk t).view.read (Elt F) (G10 m c) := by
  show (cfg0.win 10).cut (grid0.coords t) ((dats m 0 c).after 10 t) = _
  rw [after0_10]
  obtain ⟨e0, e1, e2, e3⟩ := idx_facts10 t
  funext y
  have hy0 : (y 0).val < 1 := (y 0).isLt
  have hy1 : (y 1).val < 8 := (y 1).isLt
  have hy2 : (y 2).val < 1024 := (y 2).isLt
  have hb0 : (((cfg0.win 10).blk t).view.emb y 0).val = win0_10.index t (0 : Fin 3) * 1 + 1 * (y 0).val := rfl
  have hb1 : (((cfg0.win 10).blk t).view.emb y 1).val = win0_10.index t (1 : Fin 3) * 8 + 1 * (y 1).val := rfl
  have hb2 : (((cfg0.win 10).blk t).view.emb y 2).val = win0_10.index t (2 : Fin 3) * 1024 + 1 * (y 2).val := rfl
  have hr : run10Of (((cfg0.win 10).blk t).view.emb y) = t.val := by
    show 8 * ((((cfg0.win 10).blk t).view.emb y 0).val / 1 - 0) + 8 * ((((cfg0.win 10).blk t).view.emb y 1).val / 8 - 0) + 1 * ((((cfg0.win 10).blk t).view.emb y 2).val / 1024 - 0) = _
    rw [hb0, hb1, hb2]
    rw [show (win0_10.index t (0 : Fin 3) * 1 + 1 * (y 0).val) / 1 = win0_10.index t (0 : Fin 3) from by omega]; rw [show (win0_10.index t (1 : Fin 3) * 8 + 1 * (y 1).val) / 8 = win0_10.index t (1 : Fin 3) from by omega]; rw [show (win0_10.index t (2 : Fin 3) * 1024 + 1 * (y 2).val) / 1024 = win0_10.index t (2 : Fin 3) from by omega]
    omega
  have hl : loc10Of (((cfg0.win 10).blk t).view.emb y) = (cfg0.win 10).xinj (grid0.coords t) y := by
    funext a; apply Fin.ext
    match a with
    | ⟨0, _⟩ => show (((cfg0.win 10).blk t).view.emb y 0).val % 1 = (y 0).val; rw [hb0]; omega
    | ⟨1, _⟩ => show (((cfg0.win 10).blk t).view.emb y 1).val % 8 = (y 1).val; rw [hb1]; omega
    | ⟨2, _⟩ => show (((cfg0.win 10).blk t).view.emb y 2).val % 1024 = (y 2).val; rw [hb2]; omega
  have hp : pt10Of (((cfg0.win 10).blk t).view.emb y) = t.val := by
    exact hr
  show (outsAt0 m c t.val _).2.2.2.2.1 ((cfg0.win 10).xinj (grid0.coords t) y) = G10 m c (((cfg0.win 10).blk t).view.emb y)
  unfold G10
  rw [dif_pos (by rw [hp]; exact t.isLt), hl, outsAt0_congr m c _ _ _ _ hp.symm]

/-- An index of the array is in point `t`'s block iff each coordinate is in the block's range on its axis. -/
theorem mem_blk10 (t : Fin cfg0.N) (i : S4x8x8192.Idx) :
    i ∈ ((cfg0.win 10).blk t).view.set ↔ ∀ a : Fin 3, win0_10.index t a * S1x8x1024.size a ≤ (i a).val ∧ (i a).val < win0_10.index t a * S1x8x1024.size a + S1x8x1024.size a := by
  show i ∈ ((View.whole main_v4_4).slice (win0_10.rect t)).set ↔ _
  rw [View.set_slice_whole, Rect.mem_set_unit]
  exact Iff.rfl

/-- THE COVERED INDICES: in some flushing point's block iff inside the box those blocks fill. -/
theorem covered_iff10 (i : S4x8x8192.Idx) :
    (∃ t : Fin cfg0.N, (cfg0.win 10).flush t = true ∧ i ∈ ((cfg0.win 10).blk t).view.set) ↔ 0 ≤ (i 0).val ∧ (i 0).val < 4 ∧ 0 ≤ (i 1).val ∧ (i 1).val < 8 ∧ 0 ≤ (i 2).val ∧ (i 2).val < 8192 := by
  constructor
  · rintro ⟨t, -, hi⟩
    rw [mem_blk10] at hi
    have b0 : win0_10.index t (0 : Fin 3) * 1 ≤ (i 0).val ∧ (i 0).val < win0_10.index t (0 : Fin 3) * 1 + 1 := hi 0
    have b1 : win0_10.index t (1 : Fin 3) * 8 ≤ (i 1).val ∧ (i 1).val < win0_10.index t (1 : Fin 3) * 8 + 8 := hi 1
    have b2 : win0_10.index t (2 : Fin 3) * 1024 ≤ (i 2).val ∧ (i 2).val < win0_10.index t (2 : Fin 3) * 1024 + 1024 := hi 2
    obtain ⟨e0, e1, e2, e3⟩ := idx_facts10 t
    omega
  · intro h
    have hi0 : (i 0).val < 4 := (i 0).isLt
    have hi1 : (i 1).val < 8 := (i 1).isLt
    have hi2 : (i 2).val < 8192 := (i 2).isLt
    obtain ⟨t, hft, ht⟩ := idx_onto10 ⟨(i 0).val / 1 - 0, by omega⟩ ⟨(i 1).val / 8 - 0, by omega⟩ ⟨(i 2).val / 1024 - 0, by omega⟩
    have q0 : win0_10.index t (0 : Fin 3) = (i 0).val / 1 - 0 + 0 := congrFun ht 0
    have q1 : win0_10.index t (1 : Fin 3) = (i 1).val / 8 - 0 + 0 := congrFun ht 1
    have q2 : win0_10.index t (2 : Fin 3) = (i 2).val / 1024 - 0 + 0 := congrFun ht 2
    refine ⟨t, hft, ?_⟩
    rw [mem_blk10]
    intro a
    match a with
    | ⟨0, _⟩ => show win0_10.index t (0 : Fin 3) * 1 ≤ (i 0).val ∧ (i 0).val < win0_10.index t (0 : Fin 3) * 1 + 1; omega
    | ⟨1, _⟩ => show win0_10.index t (1 : Fin 3) * 8 ≤ (i 1).val ∧ (i 1).val < win0_10.index t (1 : Fin 3) * 8 + 8; omega
    | ⟨2, _⟩ => show win0_10.index t (2 : Fin 3) * 1024 ≤ (i 2).val ∧ (i 2).val < win0_10.index t (2 : Fin 3) * 1024 + 1024; omega

/-- THE ARRAY after the run: `G10` (the flushing blocks tile it). -/
theorem final10 (c : Dev nD) : (dats m 0 c).arrAt 10 cfg0.N = G10 m c :=
  (dats m 0 c).arrAt_eq_of_cover 10 _ (fun t hf => flushed10_eq m c t hf) (fun i => (covered_iff10 i).2 (by
    have h0 : (i 0).val < 4 := (i 0).isLt; have h1 : (i 1).val < 8 := (i 1).isLt; have h2 : (i 2).val < 8192 := (i 2).isLt; omega))

end Cert.KernelIdeal.Points
-- ==== Proof.Spec.lean ====
/- The backward pass of the router losses, token by token, over the extended reals.

   The definitions say what every result is as a function of a token's eight logits; the theorems are the one piece of
   mathematics that separates the kernel's text from the reference's: a log-sum-exp shifted by the greatest logit (where
   that is finite) is the log-sum-exp. -/
module

public import Idealize.ShloMosaic.Lib.Pipeline.Value
public import Idealize.ShloMosaic.Lib.Tactic
public import Idealize.ShloMosaic.Lib.Pointwise
public import Idealize.ShloMosaic.Lib.IdealHost

@[expose] public section

noncomputable section

open Idealize.ShloMosaic

namespace Cert.Spec

/-- The weight of the auxiliary loss, its scale over the tokens included. -/
def cAux : EReal := Ideal.ofBits .f32 0x3623D70A#32
/-- The weight of the z-loss over the tokens. -/
def cZ : EReal := Ideal.ofBits .f32 0x3303126F#32
/-- Twice the weight of the z-loss over the tokens. -/
def cZ2 : EReal := Ideal.ofBits .f32 0x3383126F#32
/-- The number of tokens. -/
def nTok : EReal := Ideal.ofBits .f32 0x47000000#32
/-- The number of expert choices, two for every token. -/
def nSel : EReal := Ideal.ofBits .f32 0x47800000#32

/-- The log-sum-exp of a token's eight logits. -/
def lse (z : Fin 8 → EReal) : EReal := Ideal.log (∑ e, Ideal.exp (z e))

/-- The probability of expert `e` for a token. -/
def prob (z : Fin 8 → EReal) (e : Fin 8) : EReal := Ideal.exp (z e - lse z)

/-- The expected frequency of a token's expert. -/
def load (f z : Fin 8 → EReal) : EReal := ∑ e, prob z e * f e

/-- A token's term of the auxiliary loss. -/
def aux (f z : Fin 8 → EReal) : EReal := cAux * load f z

/-- A token's term of the z-loss. -/
def zterm (z : Fin 8 → EReal) : EReal := cZ * (lse z * lse z)

/-- Whether a word names expert `e`, as one bit. -/
def hit (w : BitVec 32) (e : Fin 8) : BitVec 1 := IntOp.cmpi .eq w (BitVec.ofNat 32 e.val)

/-- The gradient a token's two gates send to the probability of expert `e`. -/
def dprob (i0 i1 : BitVec 32) (d0 d1 : EReal) (e : Fin 8) : EReal :=
  Scalar.select (hit i0 e) d0 0 + Scalar.select (hit i1 e) d1 0

/-- The gradient of a token's logit for expert `e`. -/
def dlogit (f z dp : Fin 8 → EReal) (e : Fin 8) : EReal :=
  prob z e * ((cAux * (f e - load f z) + cZ2 * lse z) + (dp e - ∑ k, dp k * prob z k))

/-- The greatest of eight logits. -/
def top (z : Fin 8 → EReal) : EReal := Finset.univ.fold max ⊥ z

/-- The shift the kernel takes: the greatest logit where its size is below infinity, and zero elsewhere. -/
def shift (z : Fin 8 → EReal) : EReal := Scalar.select (Ideal.cmp .olt (max (top z) (-top z)) ⊤) (top z) 0

/-- A selection on a condition that holds takes the first value. -/
theorem select_true {b : Bool} (h : b = true) (x y : EReal) : Scalar.select (BitVec.ofBool b) x y = x := by
  subst h; rfl

/-- A selection on a condition that fails takes the second value. -/
theorem select_false {b : Bool} (h : b = false) (x y : EReal) : Scalar.select (BitVec.ofBool b) x y = y := by
  subst h; rfl

/-- No logit is above the greatest one. -/
theorem le_top (z : Fin 8 → EReal) (e : Fin 8) : z e ≤ top z :=
  (Finset.le_fold_max (z e)).mpr (Or.inr ⟨e, Finset.mem_univ e, le_rfl⟩)

/-- The greatest logit, when it is not minus infinity, is one of the logits. -/
theorem exists_top (z : Fin 8 → EReal) (h : top z ≠ ⊥) : ∃ e, z e = top z := by
  have h' : top z ≤ top z := le_rfl
  rcases (Finset.le_fold_max (s := Finset.univ) (b := ⊥) (f := z) (top z)).mp h' with h1 | ⟨e, _, h2⟩
  · exact absurd (le_bot_iff.mp h1) h
  · exact ⟨e, le_antisymm (le_top z e) h2⟩

/-- The exponential of a value below plus infinity is a real number, not negative. -/
theorem exp_real {x : EReal} (h : x ≠ ⊤) : ∃ a : ℝ, 0 ≤ a ∧ Ideal.exp x = (a : EReal) := by
  induction x with
  | bot => exact ⟨0, le_rfl, rfl⟩
  | top => exact absurd rfl h
  | coe r => exact ⟨Real.exp r, (Real.exp_pos r).le, rfl⟩

/-- Shifting the exponent down by a real number divides the exponential. -/
theorem exp_sub_real {x : EReal} (h : x ≠ ⊤) {a : ℝ} (ha : Ideal.exp x = (a : EReal)) (r : ℝ) :
    Ideal.exp (x - (r : EReal)) = ((a * Real.exp (-r) : ℝ) : EReal) := by
  induction x with
  | bot =>
    have h0 : a = 0 := by
      have : ((0 : ℝ) : EReal) = (a : EReal) := ha
      exact (EReal.coe_eq_coe_iff.mp this).symm
    subst h0
    rw [EReal.bot_sub, zero_mul]; rfl
  | top => exact absurd rfl h
  | coe q =>
    have h0 : a = Real.exp q := by
      have : ((Real.exp q : ℝ) : EReal) = (a : EReal) := ha
      exact (EReal.coe_eq_coe_iff.mp this).symm
    subst h0
    rw [← EReal.coe_sub, ← Real.exp_add, ← sub_eq_add_neg]; rfl

/-- A finite sum of real numbers, read as extended reals, is the sum of the readings. -/
theorem coe_sum {ι : Type} (s : Finset ι) (a : ι → ℝ) : ((∑ i ∈ s, a i : ℝ) : EReal) = ∑ i ∈ s, (a i : EReal) := by
  classical
  induction s using Finset.induction_on with
  | empty => simp
  | insert i s hi ih => rw [Finset.sum_insert hi, Finset.sum_insert hi, EReal.coe_add, ih]

/-- A log-sum-exp shifted by the greatest logit, where that is finite, is the log-sum-exp. -/
theorem lse_shift (z : Fin 8 → EReal) :
    Ideal.log (∑ e, Ideal.exp (z e - shift z)) + shift z = lse z := by
  unfold lse
  by_cases hr : top z = ⊤ ∨ top z = ⊥
  · have hs : shift z = 0 := by
      unfold shift
      refine select_false ?_ _ _
      rcases hr with h | h <;> rw [h] <;> simp
    rw [hs, add_zero]
    simp only [sub_zero]
  · push Not at hr
    obtain ⟨r, hr'⟩ : ∃ r : ℝ, top z = (r : EReal) := ⟨(top z).toReal, (EReal.coe_toReal hr.1 hr.2).symm⟩
    have hs : shift z = (r : EReal) := by
      unfold shift
      rw [hr']
      refine select_true ?_ _ _
      exact decide_eq_true (max_lt (EReal.coe_lt_top r) (by rw [← EReal.coe_neg]; exact EReal.coe_lt_top _))
    have hz : ∀ e, z e ≠ ⊤ := fun e h => hr.1 (top_le_iff.mp (h ▸ le_top z e))
    choose a ha0 ha using fun e => exp_real (hz e)
    obtain ⟨e0, he0⟩ := exists_top z hr.2
    have hpos : 0 < ∑ e, a e := by
      refine Finset.sum_pos' (fun e _ => ha0 e) ⟨e0, Finset.mem_univ _, ?_⟩
      have h1 := ha e0
      rw [he0, hr'] at h1
      have h2 : ((Real.exp r : ℝ) : EReal) = (a e0 : EReal) := h1
      rw [← EReal.coe_eq_coe_iff.mp h2]; exact Real.exp_pos r
    have e1 : (∑ e, Ideal.exp (z e)) = ((∑ e, a e : ℝ) : EReal) := by
      rw [coe_sum]; exact Finset.sum_congr rfl fun e _ => ha e
    have e2 : (∑ e, Ideal.exp (z e - shift z)) = (((∑ e, a e) * Real.exp (-r) : ℝ) : EReal) := by
      rw [Finset.sum_mul, coe_sum, hs]
      exact Finset.sum_congr rfl fun e _ => exp_sub_real (hz e) (ha e) r
    have l1 : ∀ t : ℝ, 0 < t → Ideal.log (t : EReal) = ((Real.log t : ℝ) : EReal) := fun t ht => by
      show (if t ≤ 0 then (⊥ : EReal) else (Real.log t : EReal)) = _
      rw [if_neg (not_le.mpr ht)]
    rw [e1, e2, hs, l1 _ hpos, l1 _ (mul_pos hpos (Real.exp_pos _)), Real.log_mul hpos.ne' (Real.exp_pos _).ne',
      Real.log_exp, ← EReal.coe_add, neg_add_cancel_right]

/-- The word of minus infinity denotes the bottom of the extended reals. -/
theorem ofBits_neg_inf : Ideal.ofBits .f32 0xFF800000#32 = (⊥ : EReal) := by
  simp [Ideal.ofBits, Ideal.ieee]

/-- The word of plus infinity denotes the top of the extended reals. -/
theorem ofBits_pos_inf : Ideal.ofBits .f32 0x7F800000#32 = (⊤ : EReal) := by
  simp [Ideal.ofBits, Ideal.ieee]

end Cert.Spec
-- ==== Proof.Payload.lean ====
/- The payloads of the kernel's body at an index, over the extended reals: each is the token-by-token formula of `Spec`
   at that index's token and expert. -/
module

public import proofs.«01_k».proof.Proof.Spec
public import proofs.«01_k».proof.Proof.Pieces
public import Idealize.ShloMosaic.Lib.IndicatorCount

@[expose] public section

set_option maxRecDepth 16384

noncomputable section

open Idealize.ShloMosaic Idealize.ShloMosaic.TcCoe

namespace Cert.KernelIdeal.Payload

open Cert.KernelIdeal Cert.KernelIdeal.Gen Cert.KernelIdeal.Pieces Cert.Spec

/-- The logit of expert `e` for token `s` of a block. -/
def zb (w : Vec Ideal S8x4096 .bf16) (x : Vec Ideal S1x1024x4096 .fp8e4m3) (sc : Vec Ideal S1x1x1024 .f32)
    (s : Fin 1024) (e : Fin 8) : EReal :=
  (∑ k : Fin 4096, (x (ix3 0 s k) : EReal) * (w (ix2 e k) : EReal)) * sc (ix3 0 0 s)

variable (w : Vec Ideal S8x4096 .bf16) (x : Vec Ideal S1x1024x4096 .fp8e4m3) (sc : Vec Ideal S1x1x1024 .f32)

/-- The kernel's scaled product, token by token, is the logit. -/
theorem pay9_apply (e : Fin 8) (s : Fin 1024) : k0_pay9 w x sc (ix2 e s) = zb w x sc s e := by
  unfold zb
  pointwise [k0_pay9]
  exact congrArg (· * (sc (ix3 0 0 s) : EReal)) (Finset.sum_congr rfl fun k _ => mul_comm _ _)

/-- The kernel's log-sum-exp row is the log-sum-exp of the block's tokens. -/
theorem pay10_apply (s : Fin 1024) : k0_pay10 w x sc (ix2 0 s) = lse (zb w x sc s) := by
  rw [← lse_shift]
  unfold shift top
  pointwise [k0_pay10, pay9_apply]
  simp only [ofBits_neg_inf, ofBits_pos_inf, Ideal.absf_def]

/-- The kernel's probabilities are the probabilities of the block's tokens. -/
theorem pay11_apply (e : Fin 8) (s : Fin 1024) : k0_pay11 w x sc (ix2 e s) = prob (zb w x sc s) e := by
  unfold prob
  pointwise [k0_pay11, pay9_apply, pay10_apply]

/-- The row sums of the block's probabilities. -/
theorem pay12_apply (e : Fin 8) (l : Fin 128) : k0_pay12 w x sc (ix2 e l) = ∑ s : Fin 1024, prob (zb w x sc s) e := by
  pointwise [k0_pay12, pay11_apply]

/-- The probability scratch grows by the block's row sum. -/
theorem pay13_apply (a b : Vec Ideal S8x128 .f32) (e : Fin 8) (l : Fin 128) :
    k0_pay13 a b (ix2 e l) = (a (ix2 e l) + b (ix2 e l) : EReal) := by
  pointwise [k0_pay13]

/-- The first point clears the probability scratch. -/
theorem pay8_apply (e : Fin 8) (l : Fin 128) : k0_pay8 (F := Ideal) (ix2 e l) = (0 : EReal) := by
  pointwise [k0_pay8]

/-- The expert frequencies as the first column of the scratch holds them. -/
def fcol (f : Vec Ideal S8x128 .f32) (e : Fin 8) : EReal := f (ix2 e 0)

/-- The first column of the frequency scratch, expert by expert. -/
theorem col_apply (f : Vec Ideal S8x128 .f32) (e : Fin 8) : col f (ix2 e 0) = fcol f e := by
  unfold fcol
  pointwise [col]

/-- The sum of probability times frequency, token by token. -/
theorem pay14_apply (f : Vec Ideal S8x128 .f32) (s : Fin 1024) :
    k0_pay14 (col f) (k0_pay11 w x sc) (ix2 0 s) = Spec.load (fcol f) (zb w x sc s) := by
  unfold Spec.load
  pointwise [k0_pay14, pay11_apply, col_apply]

/-- The stored auxiliary loss, token by token. -/
theorem pay15_apply (f : Vec Ideal S8x128 .f32) (s : Fin 1024) :
    k0_pay15 (col f) (k0_pay11 w x sc) (ix3 0 0 s) = aux (fcol f) (zb w x sc s) := by
  unfold aux cAux
  pointwise [k0_pay15, pay14_apply]

/-- The stored z-loss, token by token. -/
theorem pay16_apply (s : Fin 1024) : k0_pay16 (k0_pay10 w x sc) (ix3 0 0 s) = zterm (zb w x sc s) := by
  unfold zterm cZ
  pointwise [k0_pay16, pay10_apply]

/-- The stored log of the sum of exponentials, token by token. -/
theorem pay17_apply (s : Fin 1024) : k0_pay17 (k0_pay10 w x sc) (ix3 0 0 s) = lse (zb w x sc s) := by
  pointwise [k0_pay17, pay10_apply]

/-- The kernel's logit gradients are those of the block's tokens. -/
theorem dlogits_apply (f : Vec Ideal S8x128 .f32) (x4 : Vec Ideal S1x2x1024 .i32) (x5 : Vec Ideal S1x2x1024 .f32)
    (e : Fin 8) (s : Fin 1024) :
    dlogits f x sc w x4 x5 (ix3 0 e s)
      = dlogit (fcol f) (zb w x sc s)
          (dprob (x4 (ix3 0 0 s)) (x4 (ix3 0 1 s)) (x5 (ix3 0 0 s)) (x5 (ix3 0 1 s))) e := by
  unfold dlogit dprob hit cAux cZ2
  pointwise [dlogits, k0_pay1, k0_pay19, k0_pay18, ids0, ids1, dg0, dg1, pay10_apply, pay11_apply, pay14_apply, col_apply]

/-- The mean probabilities: the diagonal of the accumulated row sums, over the number of tokens. -/
theorem pay2_apply (v : Vec Ideal S8x128 .f32) (e : Fin 8) :
    k0_pay2 v (ix2 0 e) = Ideal.div (v (ix2 e ⟨e.val, by omega⟩)) nTok := by
  unfold nTok
  pointwise [k0_pay2]
  refine congrArg (Ideal.div · _) ?_
  rw [Finset.sum_eq_single e]
  · rw [IntOp.cmpi_eq_self]; rfl
  · intro k _ hk
    refine Spec.select_false ?_ _ _
    refine decide_eq_false fun h => hk (Fin.ext ?_)
    have h' := congrArg BitVec.toNat h
    simp only [BitVec.toNat_ofNat] at h'
    omega
  · intro h; exact absurd (Finset.mem_univ e) h

/-- How many entries of the whole array of expert indices equal the word `k`, as the kernel counts them. -/
def cntK (x : Vec Ideal S4x2x8192 .i32) (k : BitVec 32) : BitVec 32 :=
  extractAt ![0, 0, 0, 0] (shapeCast S1x1x1x1 (multiReductionI .add [1, 2, 3] S1
    (shapeCast S1x4x2x8192 (extui 32 (cmpi .eq (k0_pay3 x) (broadcast S4x2x8192 k)) natLt_1_32)
      shapeCasts_S4x2x8192_S1x4x2x8192) 0#32 reduces_S1x4x2x8192_S1 rfl) shapeCasts_S1_S1x1x1x1) inpos_S1x1x1x1_p0_0_0_0

/-- One step of the kernel's ladder over the experts: row `k` takes the count. -/
def rung (k : BitVec 32) (n : BitVec 32) (v : IVec S8x1 32) : IVec S8x1 32 :=
  select (cmpi .eq (iota .tc S8x1 32 [0] iota_S8x1_d0_w32) (broadcast S8x1 k)) (broadcast S8x1 n) v

/-- The frequency scratch is the ladder of the eight counts, divided. -/
theorem freq_eq (x : Vec Ideal S4x2x8192 .i32) :
    freq x = k0_pay7 (F := Ideal) (rung 7#32 (cntK x 7#32) (rung 6#32 (cntK x 6#32) (rung 5#32 (cntK x 5#32) (rung 4#32 (cntK x 4#32)
      (rung 3#32 (cntK x 3#32) (rung 2#32 (cntK x 2#32) (rung 1#32 (cntK x 1#32) (rung 0#32 (cntK x 0#32)
        (broadcast S8x1 0#32))))))))) := rfl

/-- The kernel's ladder of selections gives each expert its own count. -/
theorem ladder (g : BitVec 32 → BitVec 32) (e : Fin 8) :
    (Scalar.select (IntOp.cmpi .eq (BitVec.ofNat 32 e.val) 7#32) (g 7#32)
      (Scalar.select (IntOp.cmpi .eq (BitVec.ofNat 32 e.val) 6#32) (g 6#32)
        (Scalar.select (IntOp.cmpi .eq (BitVec.ofNat 32 e.val) 5#32) (g 5#32)
          (Scalar.select (IntOp.cmpi .eq (BitVec.ofNat 32 e.val) 4#32) (g 4#32)
            (Scalar.select (IntOp.cmpi .eq (BitVec.ofNat 32 e.val) 3#32) (g 3#32)
              (Scalar.select (IntOp.cmpi .eq (BitVec.ofNat 32 e.val) 2#32) (g 2#32)
                (Scalar.select (IntOp.cmpi .eq (BitVec.ofNat 32 e.val) 1#32) (g 1#32)
                  (Scalar.select (IntOp.cmpi .eq (BitVec.ofNat 32 e.val) 0#32) (g 0#32) (0#32 : BitVec 32)))))))))
      = g (BitVec.ofNat 32 e.val) := by
  fin_cases e <;> rfl

/-- The frequency scratch holds, in every column, each expert's count over the number of selections. -/
theorem freq_apply (x : Vec Ideal S4x2x8192 .i32) (e : Fin 8) (l : Fin 128) :
    freq x (ix2 e l) = Ideal.div ((((cntK x (BitVec.ofNat 32 e.val)).toInt : ℝ)) : EReal) nSel := by
  rw [freq_eq]
  unfold nSel
  pointwise [k0_pay7, rung]
  refine congrArg (Ideal.div · _) ?_
  refine congrArg (FloatOps.sitofp (F := Ideal) .f32) ?_
  exact ladder (cntK x) e

/-- The kernel's count is the number of entries that name the expert. -/
theorem cntK_eq (x : Vec Ideal S4x2x8192 .i32) (e : Fin 8) :
    cntK x (BitVec.ofNat 32 e.val) = BitVec.ofNat 32
      (Finset.univ.filter fun q : Fin 4 × Fin 8192 × Fin 2 => hit (x (ix3 q.1 q.2.2 q.2.1)) e = 1#1).card := by
  unfold cntK hit
  pointwise [k0_pay3]
  rw [IndicatorCount.fold_addi_setWidth_eq_card]
  refine congrArg (BitVec.ofNat 32) ?_
  refine Finset.card_bij' (fun i _ => (i 1, i 3, i 2)) (fun q _ => ix4 0 q.1 q.2.2 q.2.1) ?_ ?_ ?_ ?_
  · intro i hi
    simpa using (Finset.mem_filter.mp hi).2
  · intro q hq
    simp only [Finset.mem_filter, Finset.mem_univ, true_and] at hq ⊢
    exact ⟨funext fun a => by fin_cases a; exact Subsingleton.elim (α := Fin 1) _ _, hq⟩
  · intro i _
    refine funext fun a => ?_
    fin_cases a
    · exact Subsingleton.elim (α := Fin 1) _ _
    · rfl
    · rfl
    · rfl
  · intro q _; rfl

end Cert.KernelIdeal.Payload
-- ==== Proof.Model.lean ====
/- The whole problem over the extended reals: what the five results are as functions of the five arguments. -/
module

public import proofs.«01_k».proof.Proof.Spec

@[expose] public section

noncomputable section

open Idealize.ShloMosaic

namespace Cert.Spec

/-- The five arguments, by coordinates. -/
structure In where
  /-- The hidden states: batch, token, feature. -/
  x : Fin 4 → Fin 8192 → Fin 4096 → EReal
  /-- The scale of a token's hidden state. -/
  scale : Fin 4 → Fin 8192 → EReal
  /-- The router's weights: feature, expert. -/
  w : Fin 4096 → Fin 8 → EReal
  /-- The two experts every token chose. -/
  ids : Fin 4 → Fin 8192 → Fin 2 → BitVec 32
  /-- The gradients of its two gates. -/
  dg : Fin 4 → Fin 8192 → Fin 2 → EReal

namespace In
variable (a : In)

/-- A token's logits. -/
def z (b : Fin 4) (s : Fin 8192) (e : Fin 8) : EReal := (∑ k, a.x b s k * a.w k e) * a.scale b s

/-- How often expert `e` was chosen, as a 32-bit word. -/
def count (e : Fin 8) : BitVec 32 :=
  BitVec.ofNat 32 (Finset.univ.filter fun q : Fin 4 × Fin 8192 × Fin 2 => hit (a.ids q.1 q.2.1 q.2.2) e = 1#1).card

/-- The share of the choices that fell on expert `e`. -/
def freq (e : Fin 8) : EReal := Ideal.div (((a.count e).toInt : ℝ) : EReal) nSel

/-- The first result: every token's term of the auxiliary loss. -/
def auxLoss (b : Fin 4) (s : Fin 8192) : EReal := aux a.freq (a.z b s)

/-- The second result: every token's term of the z-loss. -/
def zLoss (b : Fin 4) (s : Fin 8192) : EReal := zterm (a.z b s)

/-- The third result: every expert's mean probability. -/
def meanProb (e : Fin 8) : EReal := Ideal.div (∑ b, ∑ s, prob (a.z b s) e) nTok

/-- The fourth result: every token's log-sum-exp. -/
def lseOf (b : Fin 4) (s : Fin 8192) : EReal := lse (a.z b s)

/-- The fifth result: the gradient of the logits. -/
def grad (b : Fin 4) (s : Fin 8192) (e : Fin 8) : EReal :=
  dlogit a.freq (a.z b s) (dprob (a.ids b s 0) (a.ids b s 1) (a.dg b s 0) (a.dg b s 1)) e

end In

/-- The token a grid point's row `s` is: point `t` has batch `t / 8` and tokens `1024 (t % 8)` on. -/
def tokOf (t : Fin 32) (s : Fin 1024) : Fin 8192 := ⟨1024 * (t.val % 8) + s.val, by omega⟩
/-- The batch of a grid point. -/
def batOf (t : Fin 32) : Fin 4 := ⟨t.val / 8, by omega⟩

/-- A sum over the grid points of sums over their rows is the sum over batches of sums over tokens. -/
theorem sum_points (g : Fin 4 → Fin 8192 → EReal) :
    ∑ t : Fin 32, ∑ s : Fin 1024, g (batOf t) (tokOf t s) = ∑ b, ∑ s, g b s := by
  rw [← (finProdFinEquiv (m := 4) (n := 8)).sum_comp (fun t : Fin 32 => ∑ s : Fin 1024, g (batOf t) (tokOf t s)), Fintype.sum_prod_type]
  refine Finset.sum_congr rfl fun b _ => ?_
  rw [← (finProdFinEquiv (m := 8) (n := 1024)).sum_comp (fun s : Fin 8192 => g b s), Fintype.sum_prod_type]
  refine Finset.sum_congr rfl fun i _ => Finset.sum_congr rfl fun s _ => ?_
  have hb : batOf (finProdFinEquiv (m := 4) (n := 8) (b, i)) = b := Fin.ext (by
    show (i.val + 8 * b.val) / 8 = b.val
    omega)
  have hs : tokOf (finProdFinEquiv (m := 4) (n := 8) (b, i)) s = finProdFinEquiv (m := 8) (n := 1024) (i, s) := Fin.ext (by
    show 1024 * ((i.val + 8 * b.val) % 8) + s.val = s.val + 1024 * i.val
    omega)
  rw [hb, hs]

end Cert.Spec

end
-- ==== Proof.KernelValue.lean ====
/- What the kernel's results hold at the end, as functions of the arguments, over the extended reals. -/
module

public import proofs.«01_k».proof.Proof.Points
public import proofs.«01_k».proof.Proof.Payload
public import proofs.«01_k».proof.Proof.Model

@[expose] public section

noncomputable section

namespace Cert.KernelIdeal.Final

open Cert.KernelIdeal Cert.KernelIdeal.Gen Cert.KernelIdeal.Pieces Cert.KernelIdeal.Points Cert.KernelIdeal.Payload Cert.Spec
open Idealize.ShloMosaic Idealize.ShloMosaic.TcCoe Idealize.SL.Sem Idealize.ShloMosaic.StableHlo

variable (m : (ℓ : Loc nD τ sig) → Buf (Elt Ideal) ℓ)

/-- The arguments as the memory holds them. -/
def inp (c : Dev nD) : In where
  x b s k := m ((c.tc : Thread nD τ).loc main_arg0) (ix3 b s k)
  scale b s := m ((c.tc : Thread nD τ).loc main_arg1) (ix2 b s)
  w k e := m ((c.tc : Thread nD τ).loc main_arg2) (ix2 k e)
  ids b s k := m ((c.tc : Thread nD τ).loc main_arg3) (ix3 b s k)
  dg b s k := m ((c.tc : Thread nD τ).loc main_arg4) (ix3 b s k)

/-! ## The host lines before the region -/

/-- The region finds the expert indices transposed: choice before token. -/
theorem V_main_v0 (c : Dev nD) : V m c main_v0
    = transpose S4x2x8192 [0, 2, 1] (m ((c.tc : Thread nD τ).loc main_arg3)) transposes_S4x8192x2_S4x2x8192_0_2_1 := by
  unfold V V0
  simp only [hostOps0, List.flatten_cons, List.flatten_nil, List.append_nil]
  after_results

/-- The region finds the gate gradients transposed: choice before token. -/
theorem V_main_v1 (c : Dev nD) : V m c main_v1
    = transpose S4x2x8192 [0, 2, 1] (m ((c.tc : Thread nD τ).loc main_arg4)) transposes_S4x8192x2_S4x2x8192_0_2_1 := by
  unfold V V0
  simp only [hostOps0, List.flatten_cons, List.flatten_nil, List.append_nil]
  after_results

/-- The region finds the scales with a unit axis in the middle. -/
theorem V_main_v2 (c : Dev nD) : V m c main_v2
    = shapeCast S4x1x8192 (m ((c.tc : Thread nD τ).loc main_arg1)) shapeCasts_S4x8192_S4x1x8192 := by
  unfold V V0
  simp only [hostOps0, List.flatten_cons, List.flatten_nil, List.append_nil]
  after_results <;> rfl

/-- The region finds the router weights transposed: expert before channel. -/
theorem V_main_v3 (c : Dev nD) : V m c main_v3
    = transpose S8x4096 [1, 0] (m ((c.tc : Thread nD τ).loc main_arg2)) transposes_S4096x8_S8x4096_1_0 := by
  unfold V V0
  simp only [hostOps0, List.flatten_cons, List.flatten_nil, List.append_nil]
  after_results

/-- Adding a unit axis in the middle keeps every element. -/
theorem cast_add {α : Type} (x : S4x8192.Idx → α) (b : Fin 4) (s : Fin 8192) :
    shapeCast S4x1x8192 x shapeCasts_S4x8192_S4x1x8192 (ix3 b 0 s) = x (ix2 b s) :=
  shapeCast_apply x _ _ _ (by
    rw [Shape.rowMajor_val_three, Shape.rowMajor_val_two]
    show b.val * 8192 + s.val = (b.val * 1 + 0) * 8192 + s.val
    omega)

/-! ## The input blocks at a grid point -/

/-- The printed index maps of the input windows, decided over the grid. -/
theorem idx_in : ∀ t : Fin cfg0.N,
    (win0_0.index t (0 : Fin 3) = 0 ∧ win0_0.index t (1 : Fin 3) = 0 ∧ win0_0.index t (2 : Fin 3) = 0)
    ∧ (win0_1.index t (0 : Fin 3) = t.val / 8 ∧ win0_1.index t (1 : Fin 3) = t.val % 8 ∧ win0_1.index t (2 : Fin 3) = 0)
    ∧ (win0_2.index t (0 : Fin 3) = t.val / 8 ∧ win0_2.index t (1 : Fin 3) = 0 ∧ win0_2.index t (2 : Fin 3) = t.val % 8)
    ∧ (win0_3.index t (0 : Fin 2) = 0 ∧ win0_3.index t (1 : Fin 2) = 0)
    ∧ (win0_4.index t (0 : Fin 3) = t.val / 8 ∧ win0_4.index t (1 : Fin 3) = 0 ∧ win0_4.index t (2 : Fin 3) = t.val % 8)
    ∧ (win0_5.index t (0 : Fin 3) = t.val / 8 ∧ win0_5.index t (1 : Fin 3) = 0 ∧ win0_5.index t (2 : Fin 3) = t.val % 8) :=
  (by decide +kernel : ∀ t : Fin grid0.N, _)

/-- A grid point's number, below 32. -/
def num (t : Fin cfg0.N) : Fin 32 := ⟨t.val, lt_32 t⟩

/-- What any point reads of its whole view of the expert indices. -/
theorem in0_at (c : Dev nD) (t : Fin cfg0.N) (b : Fin 4) (k : Fin 2) (s : Fin 8192) :
    (iblk m c 0 t : Vec Ideal S4x2x8192 .i32) (ix3 b k s) = (inp m c).ids b s k := by
  obtain ⟨⟨h0, h1, h2⟩, -⟩ := idx_in t
  unfold iblk
  rw [View.read_apply]
  show V m c main_v0 _ = _
  have e : ((cfg0.win 0).blk t).view.emb (ix3 b k s) = (ix3 b k s : S4x2x8192.Idx) := funext fun a => Fin.ext (by
    match a with
    | ⟨0, _⟩ => show win0_0.index t (0 : Fin 3) * 4 + 1 * b.val = b.val; rw [h0]; omega
    | ⟨1, _⟩ => show win0_0.index t (1 : Fin 3) * 2 + 1 * k.val = k.val; rw [h1]; omega
    | ⟨2, _⟩ => show win0_0.index t (2 : Fin 3) * 8192 + 1 * s.val = s.val; rw [h2]; omega)
  rw [V_main_v0]
  refine (congrArg _ e).trans ?_
  pointwise
  rfl

/-- What a point reads of the hidden states: its own 1024 tokens of its own batch. -/
theorem in1_at (c : Dev nD) (t : Fin cfg0.N) (s : Fin 1024) (k : Fin 4096) :
    (iblk m c 1 t : Vec Ideal S1x1024x4096 .fp8e4m3) (ix3 0 s k) = (inp m c).x (batOf (num t)) (tokOf (num t) s) k := by
  obtain ⟨-, ⟨h0, h1, h2⟩, -⟩ := idx_in t
  unfold iblk
  rw [View.read_apply]
  show V m c main_arg0 _ = _
  have e : ((cfg0.win 1).blk t).view.emb (ix3 0 s k) = (ix3 (batOf (num t)) (tokOf (num t) s) k : S4x8192x4096.Idx) := funext fun a => Fin.ext (by
    match a with
    | ⟨0, _⟩ => show win0_1.index t (0 : Fin 3) * 1 + 1 * 0 = t.val / 8; rw [h0]; omega
    | ⟨1, _⟩ => show win0_1.index t (1 : Fin 3) * 1024 + 1 * s.val = 1024 * (t.val % 8) + s.val; rw [h1]; omega
    | ⟨2, _⟩ => show win0_1.index t (2 : Fin 3) * 4096 + 1 * k.val = k.val; rw [h2]; omega)
  rw [V_main_arg0]
  exact congrArg _ e

/-- What a point reads of the scales: those of its own tokens. -/
theorem in2_at (c : Dev nD) (t : Fin cfg0.N) (s : Fin 1024) :
    (iblk m c 2 t : Vec Ideal S1x1x1024 .f32) (ix3 0 0 s) = (inp m c).scale (batOf (num t)) (tokOf (num t) s) := by
  obtain ⟨-, -, ⟨h0, h1, h2⟩, -⟩ := idx_in t
  unfold iblk
  rw [View.read_apply]
  show V m c main_v2 _ = _
  have e : ((cfg0.win 2).blk t).view.emb (ix3 0 0 s) = (ix3 (batOf (num t)) 0 (tokOf (num t) s) : S4x1x8192.Idx) := funext fun a => Fin.ext (by
    match a with
    | ⟨0, _⟩ => show win0_2.index t (0 : Fin 3) * 1 + 1 * 0 = t.val / 8; rw [h0]; omega
    | ⟨1, _⟩ => show win0_2.index t (1 : Fin 3) * 1 + 1 * 0 = 0; rw [h1]
    | ⟨2, _⟩ => show win0_2.index t (2 : Fin 3) * 1024 + 1 * s.val = 1024 * (t.val % 8) + s.val; rw [h2]; omega)
  rw [V_main_v2]
  refine (congrArg _ e).trans ?_
  exact cast_add _ _ _

/-- What any point reads of the router weights: all of them. -/
theorem in3_at (c : Dev nD) (t : Fin cfg0.N) (e : Fin 8) (k : Fin 4096) :
    (iblk m c 3 t : Vec Ideal S8x4096 .bf16) (ix2 e k) = (inp m c).w k e := by
  obtain ⟨-, -, -, ⟨h0, h1⟩, -⟩ := idx_in t
  unfold iblk
  rw [View.read_apply]
  show V m c main_v3 _ = _
  have e : ((cfg0.win 3).blk t).view.emb (ix2 e k) = (ix2 e k : S8x4096.Idx) := funext fun a => Fin.ext (by
    match a with
    | ⟨0, _⟩ => show win0_3.index t (0 : Fin 2) * 8 + 1 * e.val = e.val; rw [h0]; omega
    | ⟨1, _⟩ => show win0_3.index t (1 : Fin 2) * 4096 + 1 * k.val = k.val; rw [h1]; omega)
  rw [V_main_v3]
  refine (congrArg _ e).trans ?_
  pointwise
  rfl

/-- What a point reads of its block of expert indices: those of its own tokens. -/
theorem in4_at (c : Dev nD) (t : Fin cfg0.N) (k : Fin 2) (s : Fin 1024) :
    (iblk m c 4 t : Vec Ideal S1x2x1024 .i32) (ix3 0 k s) = (inp m c).ids (batOf (num t)) (tokOf (num t) s) k := by
  obtain ⟨-, -, -, -, ⟨h0, h1, h2⟩, -⟩ := idx_in t
  unfold iblk
  rw [View.read_apply]
  show V m c main_v0 _ = _
  have e : ((cfg0.win 4).blk t).view.emb (ix3 0 k s) = (ix3 (batOf (num t)) k (tokOf (num t) s) : S4x2x8192.Idx) := funext fun a => Fin.ext (by
    match a with
    | ⟨0, _⟩ => show win0_4.index t (0 : Fin 3) * 1 + 1 * 0 = t.val / 8; rw [h0]; omega
    | ⟨1, _⟩ => show win0_4.index t (1 : Fin 3) * 2 + 1 * k.val = k.val; rw [h1]; omega
    | ⟨2, _⟩ => show win0_4.index t (2 : Fin 3) * 1024 + 1 * s.val = 1024 * (t.val % 8) + s.val; rw [h2]; omega)
  rw [V_main_v0]
  refine (congrArg _ e).trans ?_
  pointwise
  rfl

/-- What a point reads of the gate gradients: those of its own tokens. -/
theorem in5_at (c : Dev nD) (t : Fin cfg0.N) (k : Fin 2) (s : Fin 1024) :
    (iblk m c 5 t : Vec Ideal S1x2x1024 .f32) (ix3 0 k s) = (inp m c).dg (batOf (num t)) (tokOf (num t) s) k := by
  obtain ⟨-, -, -, -, -, ⟨h0, h1, h2⟩⟩ := idx_in t
  unfold iblk
  rw [View.read_apply]
  show V m c main_v1 _ = _
  have e : ((cfg0.win 5).blk t).view.emb (ix3 0 k s) = (ix3 (batOf (num t)) k (tokOf (num t) s) : S4x2x8192.Idx) := funext fun a => Fin.ext (by
    match a with
    | ⟨0, _⟩ => show win0_5.index t (0 : Fin 3) * 1 + 1 * 0 = t.val / 8; rw [h0]; omega
    | ⟨1, _⟩ => show win0_5.index t (1 : Fin 3) * 2 + 1 * k.val = k.val; rw [h1]; omega
    | ⟨2, _⟩ => show win0_5.index t (2 : Fin 3) * 1024 + 1 * s.val = 1024 * (t.val % 8) + s.val; rw [h2]; omega)
  rw [V_main_v1]
  refine (congrArg _ e).trans ?_
  pointwise
  rfl

/-- The logits a grid point computes are its tokens'. -/
theorem zb_at (c : Dev nD) (t : Fin cfg0.N) (s : Fin 1024) :
    zb (iblk m c 3 t) (iblk m c 1 t) (iblk m c 2 t) s = (inp m c).z (batOf (num t)) (tokOf (num t) s) := by
  funext e
  unfold zb In.z
  refine congrArg₂ (· * ·) (Finset.sum_congr rfl fun k _ => ?_) (in2_at m c t s)
  exact congrArg₂ (· * ·) (in1_at m c t s k) (in3_at m c t e k)

/-- The frequencies in the scratch are the problem's. -/
theorem fq_eq (c : Dev nD) : fcol (fq m c) = (inp m c).freq := by
  funext e
  unfold fcol fq In.freq In.count
  rw [freq_apply, cntK_eq]
  simp only [in0_at]

/-- The running sum after point `n` is the sum of the row sums of the points up to it. -/
theorem chain_sum (c : Dev nD) (e : Fin 8) (l : Fin 128) : ∀ (n : ℕ) (h : n < cfg0.N),
    (chain m c n h (ix2 e l) : EReal)
      = ∑ j : Fin (n + 1), ∑ s : Fin 1024, prob ((inp m c).z (batOf ⟨j.val, by have := lt_of_lt_of_eq h N_0; omega⟩) (tokOf ⟨j.val, by have := lt_of_lt_of_eq h N_0; omega⟩ s)) e
  | 0, h => by
    show k0_pay13 _ _ _ = _
    rw [pay13_apply, pay8_apply, zero_add]
    unfold rows
    rw [pay12_apply]
    simp only [zb_at]
    refine Eq.trans ?_ (Fin.sum_univ_one (M := EReal) _).symm
    rfl
  | n + 1, h => by
    show k0_pay13 _ _ _ = _
    rw [pay13_apply, chain_sum c e l n (Nat.lt_of_succ_lt h)]
    unfold rows
    rw [pay12_apply, Fin.sum_univ_castSucc (n := n + 1)]
    simp only [zb_at]
    rfl

/-! ## The arrays after the region, at an index -/

/-- The point that writes token `s` of batch `b`. -/
def ptOf (b : Fin 4) (s : Fin 8192) : Fin cfg0.N :=
  ⟨8 * (b.val / 1 - 0) + 8 * (0 / 1 - 0) + 1 * (s.val / 1024 - 0), lt_of_lt_of_eq (by omega) N_0.symm⟩
/-- Its row there. -/
def rowOf (s : Fin 8192) : Fin 1024 := ⟨s.val % 1024, by omega⟩

/-- The point that owns a token works on the token's batch. -/
theorem bat_pt (b : Fin 4) (s : Fin 8192) : batOf (num (ptOf b s)) = b := Fin.ext (by
  show (8 * (b.val / 1 - 0) + 8 * (0 / 1 - 0) + 1 * (s.val / 1024 - 0)) / 8 = b.val
  omega)

/-- The point that owns a token holds it at the token's row. -/
theorem tok_pt (b : Fin 4) (s : Fin 8192) : tokOf (num (ptOf b s)) (rowOf s) = s := Fin.ext (by
  show 1024 * ((8 * (b.val / 1 - 0) + 8 * (0 / 1 - 0) + 1 * (s.val / 1024 - 0)) % 8) + s.val % 1024 = s.val
  omega)

/-- The logits the writing point computes for token `s` of batch `b`. -/
theorem zb_pt (c : Dev nD) (b : Fin 4) (s : Fin 8192) :
    zb (iblk m c 3 (ptOf b s)) (iblk m c 1 (ptOf b s)) (iblk m c 2 (ptOf b s)) (rowOf s) = (inp m c).z b s := by
  rw [zb_at, bat_pt, tok_pt]

/-- The first result's array, token by token: the auxiliary loss. -/
theorem G6_at (c : Dev nD) (b : Fin 4) (s : Fin 8192) : (G6 m c (ix3 b 0 s) : EReal) = (inp m c).auxLoss b s := by
  have h := blk6_at m c (ptOf b s)
  unfold G6
  rw [dif_pos (show pt6Of (ix3 b 0 s) < cfg0.N from (ptOf b s).isLt)]
  have e : loc6Of (ix3 b 0 s) = (ix3 0 0 (rowOf s) : S1x1x1024.Idx) := funext fun a => Fin.ext (by
    match a with
    | ⟨0, _⟩ => show b.val % 1 = 0; omega
    | ⟨1, _⟩ => rfl
    | ⟨2, _⟩ => rfl)
  refine (congrFun h (loc6Of (ix3 b 0 s))).trans ?_
  rw [e, pay15_apply, zb_pt, fq_eq]
  rfl

/-- The second result's array, token by token: the z-loss. -/
theorem G7_at (c : Dev nD) (b : Fin 4) (s : Fin 8192) : (G7 m c (ix3 b 0 s) : EReal) = (inp m c).zLoss b s := by
  have h := blk7_at m c (ptOf b s)
  unfold G7
  rw [dif_pos (show pt7Of (ix3 b 0 s) < cfg0.N from (ptOf b s).isLt)]
  have e : loc7Of (ix3 b 0 s) = (ix3 0 0 (rowOf s) : S1x1x1024.Idx) := funext fun a => Fin.ext (by
    match a with
    | ⟨0, _⟩ => show b.val % 1 = 0; omega
    | ⟨1, _⟩ => rfl
    | ⟨2, _⟩ => rfl)
  refine (congrFun h (loc7Of (ix3 b 0 s))).trans ?_
  rw [e, pay16_apply, zb_pt]
  rfl

/-- The fourth result's array, token by token: the log of the sum of exponentials. -/
theorem G9_at (c : Dev nD) (b : Fin 4) (s : Fin 8192) : (G9 m c (ix3 b 0 s) : EReal) = (inp m c).lseOf b s := by
  have h := blk9_at m c (ptOf b s)
  unfold G9
  rw [dif_pos (show pt9Of (ix3 b 0 s) < cfg0.N from (ptOf b s).isLt)]
  have e : loc9Of (ix3 b 0 s) = (ix3 0 0 (rowOf s) : S1x1x1024.Idx) := funext fun a => Fin.ext (by
    match a with
    | ⟨0, _⟩ => show b.val % 1 = 0; omega
    | ⟨1, _⟩ => rfl
    | ⟨2, _⟩ => rfl)
  refine (congrFun h (loc9Of (ix3 b 0 s))).trans ?_
  rw [e, pay17_apply, zb_pt]
  rfl

/-- The fifth result's array, token by token and expert by expert: the logit gradient. -/
theorem G10_at (c : Dev nD) (b : Fin 4) (x : Fin 8) (s : Fin 8192) : (G10 m c (ix3 b x s) : EReal) = (inp m c).grad b s x := by
  have h := blk10_at m c (ptOf b s)
  have hp : pt10Of (ix3 b x s) = (ptOf b s).val := by
    show 8 * (b.val / 1 - 0) + 8 * (x.val / 8 - 0) + 1 * (s.val / 1024 - 0) = 8 * (b.val / 1 - 0) + 8 * (0 / 1 - 0) + 1 * (s.val / 1024 - 0)
    omega
  unfold G10
  rw [dif_pos (show pt10Of (ix3 b x s) < cfg0.N from hp ▸ (ptOf b s).isLt)]
  have e : loc10Of (ix3 b x s) = (ix3 0 x (rowOf s) : S1x8x1024.Idx) := funext fun a => Fin.ext (by
    match a with
    | ⟨0, _⟩ => show b.val % 1 = 0; omega
    | ⟨1, _⟩ => show x.val % 8 = x.val; omega
    | ⟨2, _⟩ => rfl)
  rw [outsAt0_congr m c _ _ _ (ptOf b s).isLt hp]
  refine (congrFun h (loc10Of (ix3 b x s))).trans ?_
  rw [e, dlogits_apply, zb_pt, fq_eq]
  simp only [in4_at, in5_at, bat_pt, tok_pt]
  rfl

/-- The third result's array, expert by expert: the mean probability. -/
theorem G8_at (c : Dev nD) (x : Fin 8) : (G8 m c (ix2 0 x) : EReal) = (inp m c).meanProb x := by
  have hl : 31 < cfg0.N := lt_of_lt_of_eq (by decide) N_0.symm
  have h := blk8_at m c ⟨31, hl⟩ rfl
  have hp : pt8Of (ix2 0 x) = 31 := by
    show 32 * _ + 31 = 31
    have : run8Of (ix2 0 x) = 0 := by
      show _ * (0 / 1 - 0) + _ * (x.val / 8 - 0) = 0
      omega
    rw [this]
  unfold G8
  rw [dif_pos (show pt8Of (ix2 0 x) < cfg0.N from hp ▸ hl)]
  have e : loc8Of (ix2 0 x) = (ix2 0 x : S1x8.Idx) := funext fun a => Fin.ext (by
    match a with
    | ⟨0, _⟩ => rfl
    | ⟨1, _⟩ => show x.val % 8 = x.val; omega)
  rw [outsAt0_congr m c _ _ _ hl hp]
  refine (congrFun h (loc8Of (ix2 0 x))).trans ?_
  rw [e, pay2_apply]
  unfold In.meanProb
  refine congrArg (Ideal.div · nTok) ?_
  rw [← sum_points fun b s => prob ((inp m c).z b s) x]
  exact chain_sum m c x _ 31 hl

/-! ## The host lines after the region -/

/-- The memory's contents when the region is left. -/
abbrev exitV (c : Dev nD) : Valuation τ sig (Elt Ideal) :=
  Pipeline.withArrays spec0 c (V0 m c) fun w => (dats m 0 c).arrAt w cfg0.N

/-- At a window's array they are what the region leaves there (two windows share an array only where both read it). -/
theorem exit_arr (c : Dev nD) (w : Fin cfg0.W) :
    exitV m c (Proc.devRef .tc (Pipeline.arrRef spec0 w)) = (dats m 0 c).arrAt w cfg0.N :=
  Pipeline.withArrays_arr_shared spec0 c (V0 m c) _ (fun w w' hne he =>
    ((dats m 0 c).arrAt_in w (sharedIn0 w w' hne he) _).trans (A_eq m c w)) w

/-- Dropping the unit axis in the middle keeps every element. -/
theorem cast_drop {α : Type} (x : S4x1x8192.Idx → α) (b : Fin 4) (s : Fin 8192) :
    shapeCast S4x8192 x shapeCasts_S4x1x8192_S4x8192 (ix2 b s) = x (ix3 b 0 s) :=
  shapeCast_apply x _ _ _ (by
    rw [Shape.rowMajor_val_three, Shape.rowMajor_val_two]
    show (b.val * 1 + 0) * 8192 + s.val = b.val * 8192 + s.val
    omega)

/-- The first result is its array with the unit axis dropped. -/
theorem tail_main_v5 (V1 : Valuation τ sig (Elt Ideal)) : StableHlo.after (List.flatten [hostOps1]) V1 (Proc.devRef .tc main_v5)
    = shapeCast S4x8192 (V1 (Proc.devRef .tc main_v4_0)) shapeCasts_S4x1x8192_S4x8192 := by
  simp only [hostOps1, List.flatten_cons, List.flatten_nil, List.append_nil]
  after_results <;> rfl

/-- What the memory holds in `main_v5` at the end, at an index. -/
theorem fin_main_v5 (c : Dev nD) (b : Fin 4) (s : Fin 8192) :
    (Pipeline.afterTail₀ cfgs (dats m) 0 (V0 m) [hostOps1] c main_v5 (ix2 b s) : EReal) = (inp m c).auxLoss b s := by
  have h : Pipeline.afterTail₀ cfgs (dats m) 0 (V0 m) [hostOps1] c main_v5
      = shapeCast S4x8192 (G6 m c) shapeCasts_S4x1x8192_S4x8192 :=
    (tail_main_v5 (exitV m c)).trans (congrArg (fun x => shapeCast S4x8192 x shapeCasts_S4x1x8192_S4x8192)
      ((exit_arr m c 6).trans (final6 m c)))
  rw [h, ← G6_at]
  exact cast_drop (G6 m c) b s

/-- The second result is its array with the unit axis dropped. -/
theorem tail_main_v6 (V1 : Valuation τ sig (Elt Ideal)) : StableHlo.after (List.flatten [hostOps1]) V1 (Proc.devRef .tc main_v6)
    = shapeCast S4x8192 (V1 (Proc.devRef .tc main_v4_1)) shapeCasts_S4x1x8192_S4x8192 := by
  simp only [hostOps1, List.flatten_cons, List.flatten_nil, List.append_nil]
  after_results <;> rfl

/-- What the memory holds in `main_v6` at the end, at an index. -/
theorem fin_main_v6 (c : Dev nD) (b : Fin 4) (s : Fin 8192) :
    (Pipeline.afterTail₀ cfgs (dats m) 0 (V0 m) [hostOps1] c main_v6 (ix2 b s) : EReal) = (inp m c).zLoss b s := by
  have h : Pipeline.afterTail₀ cfgs (dats m) 0 (V0 m) [hostOps1] c main_v6
      = shapeCast S4x8192 (G7 m c) shapeCasts_S4x1x8192_S4x8192 :=
    (tail_main_v6 (exitV m c)).trans (congrArg (fun x => shapeCast S4x8192 x shapeCasts_S4x1x8192_S4x8192)
      ((exit_arr m c 7).trans (final7 m c)))
  rw [h, ← G7_at]
  exact cast_drop (G7 m c) b s

/-- The third result is its array with the unit axis dropped. -/
theorem tail_main_v7 (V1 : Valuation τ sig (Elt Ideal)) : StableHlo.after (List.flatten [hostOps1]) V1 (Proc.devRef .tc main_v7)
    = shapeCast S8 (V1 (Proc.devRef .tc main_v4_2)) shapeCasts_S1x8_S8 := by
  simp only [hostOps1, List.flatten_cons, List.flatten_nil, List.append_nil]
  after_results <;> rfl

/-- What the memory holds in `main_v7` at the end, at an index. -/
theorem fin_main_v7 (c : Dev nD) (e : Fin 8) :
    (Pipeline.afterTail₀ cfgs (dats m) 0 (V0 m) [hostOps1] c main_v7 (ix1 e) : EReal) = (inp m c).meanProb e := by
  have h : Pipeline.afterTail₀ cfgs (dats m) 0 (V0 m) [hostOps1] c main_v7
      = shapeCast S8 (G8 m c) shapeCasts_S1x8_S8 :=
    (tail_main_v7 (exitV m c)).trans (congrArg (fun x => shapeCast S8 x shapeCasts_S1x8_S8)
      ((exit_arr m c 8).trans (final8 m c)))
  rw [h, ← G8_at]
  generalize G8 m c = x
  pointwise

/-- The fourth result is its array with the unit axis dropped. -/
theorem tail_main_v8 (V1 : Valuation τ sig (Elt Ideal)) : StableHlo.after (List.flatten [hostOps1]) V1 (Proc.devRef .tc main_v8)
    = shapeCast S4x8192 (V1 (Proc.devRef .tc main_v4_3)) shapeCasts_S4x1x8192_S4x8192 := by
  simp only [hostOps1, List.flatten_cons, List.flatten_nil, List.append_nil]
  after_results <;> rfl

/-- What the memory holds in `main_v8` at the end, at an index. -/
theorem fin_main_v8 (c : Dev nD) (b : Fin 4) (s : Fin 8192) :
    (Pipeline.afterTail₀ cfgs (dats m) 0 (V0 m) [hostOps1] c main_v8 (ix2 b s) : EReal) = (inp m c).lseOf b s := by
  have h : Pipeline.afterTail₀ cfgs (dats m) 0 (V0 m) [hostOps1] c main_v8
      = shapeCast S4x8192 (G9 m c) shapeCasts_S4x1x8192_S4x8192 :=
    (tail_main_v8 (exitV m c)).trans (congrArg (fun x => shapeCast S4x8192 x shapeCasts_S4x1x8192_S4x8192)
      ((exit_arr m c 9).trans (final9 m c)))
  rw [h, ← G9_at]
  exact cast_drop (G9 m c) b s

/-- The fifth result is its array transposed: token before expert. -/
theorem tail_main_v9 (V1 : Valuation τ sig (Elt Ideal)) : StableHlo.after (List.flatten [hostOps1]) V1 (Proc.devRef .tc main_v9)
    = transpose S4x8192x8 [0, 2, 1] (V1 (Proc.devRef .tc main_v4_4)) transposes_S4x8x8192_S4x8192x8_0_2_1 := by
  simp only [hostOps1, List.flatten_cons, List.flatten_nil, List.append_nil]
  after_results <;> rfl

/-- What the memory holds in `main_v9` at the end, at an index. -/
theorem fin_main_v9 (c : Dev nD) (b : Fin 4) (s : Fin 8192) (e : Fin 8) :
    (Pipeline.afterTail₀ cfgs (dats m) 0 (V0 m) [hostOps1] c main_v9 (ix3 b s e) : EReal) = (inp m c).grad b s e := by
  have h : Pipeline.afterTail₀ cfgs (dats m) 0 (V0 m) [hostOps1] c main_v9
      = transpose S4x8192x8 [0, 2, 1] (G10 m c) transposes_S4x8x8192_S4x8192x8_0_2_1 :=
    (tail_main_v9 (exitV m c)).trans (congrArg (fun x => transpose S4x8192x8 [0, 2, 1] x transposes_S4x8x8192_S4x8192x8_0_2_1)
      ((exit_arr m c 10).trans (final10 m c)))
  rw [h, ← G10_at]
  generalize G10 m c = x
  pointwise

end Cert.KernelIdeal.Final

end
-- ==== Proof.RefValue.lean ====
/- What the reference's results hold at the end, as functions of the arguments, over the extended reals. -/
module

public import proofs.«01_k».proof.Proof.Gen.ReferenceIdeal.Read
public import proofs.«01_k».proof.Proof.Model
public import Idealize.ShloMosaic.Lib.IndicatorCount

@[expose] public section

noncomputable section

namespace Cert.ReferenceIdeal.Final

open Cert.ReferenceIdeal Cert.ReferenceIdeal.Gen Cert.ReferenceIdeal.Read Cert.Spec
open Idealize.ShloMosaic Idealize.ShloMosaic.TcCoe Idealize.SL.Sem Idealize.ShloMosaic.StableHlo

/-! ## The region in front: the hidden states, widened -/

section Region
variable (m : (ℓ : Loc nD τ sig) → Buf (Elt Ideal) ℓ)

/-- The printed index maps: both windows are their whole arrays. -/
theorem idx_zero : ∀ t : Fin cfg0.N,
    (win0_0.index t (0 : Fin 3) = 0 ∧ win0_0.index t (1 : Fin 3) = 0 ∧ win0_0.index t (2 : Fin 3) = 0)
    ∧ (win0_1.index t (0 : Fin 3) = 0 ∧ win0_1.index t (1 : Fin 3) = 0 ∧ win0_1.index t (2 : Fin 3) = 0) :=
  (by decide +kernel : ∀ t : Fin grid0.N, _)

/-- The cast's only input block is its whole array. -/
theorem emb0 (t : Fin cfg0.N) (j : S4x8192x4096.Idx) : ((cfg0.win 0).blk t).view.emb j = j := by
  obtain ⟨⟨e0, e1, e2⟩, -⟩ := idx_zero t
  funext a; apply Fin.ext
  match a with
  | ⟨0, _⟩ => show win0_0.index t (0 : Fin 3) * 4 + 1 * (j 0).val = (j 0).val; omega
  | ⟨1, _⟩ => show win0_0.index t (1 : Fin 3) * 8192 + 1 * (j 1).val = (j 1).val; omega
  | ⟨2, _⟩ => show win0_0.index t (2 : Fin 3) * 4096 + 1 * (j 2).val = (j 2).val; omega

/-- The cast's only output block is its whole array. -/
theorem emb1 (t : Fin cfg0.N) (j : S4x8192x4096.Idx) : ((cfg0.win 1).blk t).view.emb j = j := by
  obtain ⟨-, ⟨e0, e1, e2⟩⟩ := idx_zero t
  funext a; apply Fin.ext
  match a with
  | ⟨0, _⟩ => show win0_1.index t (0 : Fin 3) * 4 + 1 * (j 0).val = (j 0).val; omega
  | ⟨1, _⟩ => show win0_1.index t (1 : Fin 3) * 8192 + 1 * (j 1).val = (j 1).val; omega
  | ⟨2, _⟩ => show win0_1.index t (2 : Fin 3) * 4096 + 1 * (j 2).val = (j 2).val; omega

/-- The hidden states as the region's result array holds them. -/
def wide (c : Dev nD) : Buf (Elt Ideal) ((c : Thread nD τ).loc main_v0) := fun i => m ((c : Thread nD τ).loc main_arg0) i

/-- Offsets written as three zeros are the zero offsets. -/
theorem hz : (![0, 0, 0] : Fin 3 → Nat) = fun _ => 0 := funext fun a => by fin_cases a <;> rfl

/-- What the cast writes back is the widened hidden states. -/
theorem flushed_eq (c : Dev nD) (t : Fin cfg0.N) (hf : (cfg0.win 1).flush t = true) :
    (dats m 0 c).flushed 1 t = ((cfg0.win 1).blk t).view.read (Elt Ideal) (wide m c) := by
  funext y
  show ((dats m 0 c).after 1 t) ((cfg0.win 1).xinj (grid0.coords t) y) = wide m c (((cfg0.win 1).blk t).view.emb y)
  rw [after0_1, emb1]
  have hx : (cfg0.win 1).xinj (grid0.coords t) y = y := rfl
  rw [hx]
  have hp : out0_1 (iblk m c 0 t) = k0_pay1 (View.ld (iblk m c 0 t) r0_0) := by
    unfold out0_1
    exact View.canon_unit_zero hz _ _
  rw [hp]
  have hl : View.ld (iblk m c 0 t) r0_0 = iblk m c 0 t := View.ld_unit_zero hz _ _
  rw [hl]
  show iblk m c 0 t y = m ((c : Thread nD τ).loc main_arg0) y
  show V m c main_arg0 (((cfg0.win 0).blk t).view.emb y) = _
  rw [emb0, V_main_arg0]

/-- The region leaves the hidden states as they were. -/
theorem reg_eq (c : Dev nD) : Cert.ReferenceIdeal.Value.reg_main_v0 m c = wide m c := by
  have hN : 0 < cfg0.grid.N := by decide
  refine (dats m 0 c).arrAt_eq_of_cover 1 _ (fun t hf => flushed_eq m c t hf) fun i => ?_
  refine ⟨⟨0, hN⟩, flush0_1 _, ?_⟩
  have h := View.emb_mem_set ((cfg0.win 1).blk ⟨0, hN⟩).view i
  rw [emb1] at h
  exact h

end Region

/-! ## The host operations, at an index -/

variable (x1 : (⟨S4x8192, .f32⟩ : BufTy).Contents (Elt Ideal)) (x2 : (⟨S4096x8, .bf16⟩ : BufTy).Contents (Elt Ideal))
  (x3 : (⟨S4x8192x2, .i32⟩ : BufTy).Contents (Elt Ideal)) (x4 : (⟨S4x8192x2, .f32⟩ : BufTy).Contents (Elt Ideal))
  (r0 : (⟨S4x8192x4096, .bf16⟩ : BufTy).Contents (Elt Ideal))

/-- The problem's arguments, out of the operations' operands. -/
def args : In where
  x b s k := r0 (ix3 b s k)
  scale b s := x1 (ix2 b s)
  w k e := x2 (ix2 k e)
  ids b s k := x3 (ix3 b s k)
  dg b s k := x4 (ix3 b s k)

/-- The reference's logits. -/
theorem v15_at (b : Fin 4) (s : Fin 8192) (e : Fin 8) :
    val_main_v15 (F := Ideal) x1 x2 r0 (ix3 b s e) = (args x1 x2 x3 x4 r0).z b s e := by
  unfold In.z
  pointwise [val_main_v15, val_main_v14, val_main_v13, val_main_v12]
  rfl

/-- The fourth result, the log of the sum of exponentials. -/
theorem v18_at (b : Fin 4) (s : Fin 8192) :
    val_main_v18 (F := Ideal) x1 x2 r0 (ix2 b s) = (args x1 x2 x3 x4 r0).lseOf b s := by
  unfold In.lseOf lse
  pointwise [val_main_v18, val_main_v17, val_main_v16, val_main_cst_0, v15_at x1 x2 x3 x4 r0]

/-- The reference's probabilities. -/
theorem v22_at (b : Fin 4) (s : Fin 8192) (e : Fin 8) :
    val_main_v22 (F := Ideal) x1 x2 r0 (ix3 b s e) = prob ((args x1 x2 x3 x4 r0).z b s) e := by
  unfold prob
  pointwise [val_main_v22, val_main_v21, val_main_v20, val_main_v19, v15_at x1 x2 x3 x4 r0, v18_at x1 x2 x3 x4 r0]
  rfl

/-- A flag's index drops to expert `e` when its last coordinate is `e`. -/
theorem drop8_iff (i : S4x8192x2x8.Idx) (e : Fin 8) : reducesTo_S4x8192x2x8_S8_d0_1_2.drop i = ix1 e ↔ (i 3).val = e.val := by
  have h := reducesTo_S4x8192x2x8_S8_d0_1_2.drop_apply_val_of_eq i 0 3
  constructor
  · intro hi
    rw [hi] at h
    exact h.symm
  · intro hi
    refine funext fun a => Fin.ext ?_
    match a with
    | ⟨0, _⟩ => exact h.trans hi

/-- A probability's index drops to expert `e` when its last coordinate is `e`. -/
theorem drop23_iff (i : S4x8192x8.Idx) (e : Fin 8) : reducesTo_S4x8192x8_S8_d0_1.drop i = ix1 e ↔ (i 2).val = e.val := by
  have h := reducesTo_S4x8192x8_S8_d0_1.drop_apply_val_of_eq i 0 2
  constructor
  · intro hi
    rw [hi] at h
    exact h.symm
  · intro hi
    refine funext fun a => Fin.ext ?_
    match a with
    | ⟨0, _⟩ => exact h.trans hi

set_option maxRecDepth 16384 in
/-- The reference's count of each expert: how many selections name it. -/
theorem v8_at (e : Fin 8) : val_main_v8 (F := Ideal) x3 (ix1 e) = (args x1 x2 x3 x4 r0).count e := by
  unfold In.count hit
  pointwise [val_main_v8, val_main_v7, val_main_v6, val_main_v5, val_main_v4, val_main_v3, val_main_v2, val_main_v1, val_main_c]
  rw [IndicatorCount.fold_addi_setWidth_eq_card]
  refine congrArg (BitVec.ofNat 32) ?_
  refine Finset.card_bij' (fun i _ => (i 0, i 1, i 2)) (fun q _ => ix4 q.1 q.2.1 q.2.2 e) ?_ ?_ ?_ ?_
  · intro i hi
    simp only [Finset.mem_filter, Finset.mem_univ, true_and] at hi ⊢
    rw [(drop8_iff i e).mp hi.1] at hi
    exact hi.2
  · intro q hq
    simp only [Finset.mem_filter, Finset.mem_univ, true_and] at hq ⊢
    exact ⟨(drop8_iff _ e).mpr rfl, hq⟩
  · intro i hi
    simp only [Finset.mem_filter, Finset.mem_univ, true_and] at hi
    have h3 := (drop8_iff i e).mp hi.1
    refine funext fun a => Fin.ext ?_
    match a with
    | ⟨0, _⟩ => rfl
    | ⟨1, _⟩ => rfl
    | ⟨2, _⟩ => rfl
    | ⟨3, _⟩ => exact h3.symm
  · intro q _; rfl

/-- The reference's frequency of each expert. -/
theorem v11_at (e : Fin 8) : val_main_v11 (F := Ideal) x3 (ix1 e) = (args x1 x2 x3 x4 r0).freq e := by
  unfold In.freq nSel
  pointwise [val_main_v11, val_main_v10, val_main_v9, val_main_cst, v8_at x1 x2 x3 x4 r0]
  rfl

/-- The reference's sum of probability times frequency. -/
theorem v29_at (b : Fin 4) (s : Fin 8192) :
    val_main_v29 (F := Ideal) x1 x2 x3 r0 (ix2 b s) = Spec.load (args x1 x2 x3 x4 r0).freq ((args x1 x2 x3 x4 r0).z b s) := by
  unfold Spec.load
  pointwise [val_main_v29, val_main_v28, val_main_v27, val_main_v26, val_main_cst_3, v22_at x1 x2 x3 x4 r0, v11_at x1 x2 x3 x4 r0]

/-- The first result. -/
theorem v31_at (b : Fin 4) (s : Fin 8192) :
    val_main_v31 (F := Ideal) x1 x2 x3 r0 (ix2 b s) = (args x1 x2 x3 x4 r0).auxLoss b s := by
  unfold In.auxLoss aux cAux
  pointwise [val_main_v31, val_main_v30, val_main_cst_4, v29_at x1 x2 x3 x4 r0]

/-- The second result. -/
theorem v34_at (b : Fin 4) (s : Fin 8192) :
    val_main_v34 (F := Ideal) x1 x2 r0 (ix2 b s) = (args x1 x2 x3 x4 r0).zLoss b s := by
  unfold In.zLoss zterm cZ
  pointwise [val_main_v34, val_main_v33, val_main_v32, val_main_cst_5, v18_at x1 x2 x3 x4 r0]
  rfl

set_option maxRecDepth 16384 in
/-- The third result. -/
theorem v25_at (e : Fin 8) :
    val_main_v25 (F := Ideal) x1 x2 r0 (ix1 e) = (args x1 x2 x3 x4 r0).meanProb e := by
  unfold In.meanProb nTok
  pointwise [val_main_v25, val_main_v24, val_main_v23, val_main_cst_1, val_main_cst_2, v22_at x1 x2 x3 x4 r0]
  refine congrArg (Ideal.div · _) ?_
  unfold Ideal.hostReduceAdd
  rw [zero_add, ← Fintype.sum_prod_type (fun q : Fin 4 × Fin 8192 => prob ((args x1 x2 x3 x4 r0).z q.1 q.2) e)]
  refine Finset.sum_bij' (fun i _ => (i 0, i 1)) (fun q _ => ix3 q.1 q.2 e) ?_ ?_ ?_ ?_ ?_
  · intro i _
    exact Finset.mem_univ _
  · intro q _
    exact Finset.mem_filter.mpr ⟨Finset.mem_univ _, (drop23_iff _ e).mpr rfl⟩
  · intro i hi
    have h3 := (drop23_iff i e).mp (Finset.mem_filter.mp hi).2
    refine funext fun a => Fin.ext ?_
    match a with
    | ⟨0, _⟩ => rfl
    | ⟨1, _⟩ => rfl
    | ⟨2, _⟩ => exact h3.symm
  · intro q _; rfl
  · intro i hi
    have h3 : i 2 = e := Fin.ext ((drop23_iff i e).mp (Finset.mem_filter.mp hi).2)
    exact (congrArg (val_main_v22 (F := Ideal) x1 x2 r0) ((eq_ix3 i).trans (congrArg (ix3 (i 0) (i 1)) h3))).trans
      (v22_at x1 x2 x3 x4 r0 (i 0) (i 1) e)

/-- The reference's gradient with respect to the probabilities. -/
theorem v37_at (b : Fin 4) (s : Fin 8192) (e : Fin 8) :
    val_main_v37 (F := Ideal) x3 x4 (ix3 b s e) = dprob (x3 (ix3 b s 0)) (x3 (ix3 b s 1)) (x4 (ix3 b s 0)) (x4 (ix3 b s 1)) e := by
  unfold dprob hit
  pointwise [val_main_v37, val_main_v36, val_main_call0_v2, val_main_call0_v1, val_main_call0_v0, val_main_v35, val_main_cst_6, val_main_cst_7,
    val_main_v6, val_main_v5, val_main_v4, val_main_v3, val_main_v2, val_main_v1]
  have h0 : (id (constant (F := Ideal) S_ .f32 0#32) ix0 : EReal) = 0 := by
    show Ideal.ofBits .f32 0#32 = 0
    simp
  rw [Fin.sum_univ_two, h0]

/-- The fifth result. -/
theorem v56_at (b : Fin 4) (s : Fin 8192) (e : Fin 8) :
    val_main_v56 (F := Ideal) x1 x2 x3 x4 r0 (ix3 b s e) = (args x1 x2 x3 x4 r0).grad b s e := by
  unfold In.grad dlogit cAux cZ2
  pointwise [val_main_v56, val_main_v55, val_main_v54, val_main_v53, val_main_v52, val_main_v51, val_main_v50, val_main_v49, val_main_v48,
    val_main_v47, val_main_v46, val_main_v45, val_main_v44, val_main_v43, val_main_v42, val_main_v41, val_main_v40, val_main_v39, val_main_v38,
    val_main_cst_8, val_main_cst_9, val_main_cst_10, v22_at x1 x2 x3 x4 r0, v18_at x1 x2 x3 x4 r0, v29_at x1 x2 x3 x4 r0, v11_at x1 x2 x3 x4 r0, v37_at]
  rfl

end Cert.ReferenceIdeal.Final

end
-- ==== Proof.Algebraic.lean ====
/- Both programs, from memories that hold the same arguments, end with the same five results. -/
module

public import proofs.«01_k».proof.Proof.KernelValue
public import proofs.«01_k».proof.Proof.RefValue
public import proofs.«01_k».proof.Proof.Gen.ReferenceIdeal.Run

@[expose] public section

noncomputable section

open Idealize.ShloMosaic Idealize.ShloMosaic.TcCoe Idealize.SL.Sem

namespace Cert.KernelIdeal.Final

open Cert.KernelIdeal Cert.KernelIdeal.Gen Cert.Spec

variable (m : (ℓ : Loc nD τ sig) → Buf (Elt Ideal) ℓ)

/-- The first result, the auxiliary loss per token. -/
def o5 (c : Dev nD) : Buf (Elt Ideal) ((c.tc : Thread nD τ).loc main_v5) := fun i => (inp m c).auxLoss (i 0) (i 1)
/-- The second result, the z-loss per token. -/
def o6 (c : Dev nD) : Buf (Elt Ideal) ((c.tc : Thread nD τ).loc main_v6) := fun i => (inp m c).zLoss (i 0) (i 1)
/-- The third result, the mean probability per expert. -/
def o7 (c : Dev nD) : Buf (Elt Ideal) ((c.tc : Thread nD τ).loc main_v7) := fun i => (inp m c).meanProb (i 0)
/-- The fourth result, the log of the sum of exponentials per token. -/
def o8 (c : Dev nD) : Buf (Elt Ideal) ((c.tc : Thread nD τ).loc main_v8) := fun i => (inp m c).lseOf (i 0) (i 1)
/-- The fifth result, the gradient of the logits. -/
def o9 (c : Dev nD) : Buf (Elt Ideal) ((c.tc : Thread nD τ).loc main_v9) := fun i => (inp m c).grad (i 0) (i 1) (i 2)

/-- The kernel ends with the auxiliary losses in its first result. -/
theorem all_main_v5 (c : Dev nD) : Pipeline.afterTail₀ cfgs (dats m) 0 (V0 m) [hostOps1] c main_v5 = o5 m c := by
  funext i
  obtain ⟨b, s, rfl⟩ : ∃ (b : Fin 4) (s : Fin 8192), i = ix2 b s := ⟨i 0, i 1, eq_ix2 i⟩
  exact fin_main_v5 m c b s

/-- The kernel ends with the z-losses in its second result. -/
theorem all_main_v6 (c : Dev nD) : Pipeline.afterTail₀ cfgs (dats m) 0 (V0 m) [hostOps1] c main_v6 = o6 m c := by
  funext i
  obtain ⟨b, s, rfl⟩ : ∃ (b : Fin 4) (s : Fin 8192), i = ix2 b s := ⟨i 0, i 1, eq_ix2 i⟩
  exact fin_main_v6 m c b s

/-- The kernel ends with the mean probabilities in its third result. -/
theorem all_main_v7 (c : Dev nD) : Pipeline.afterTail₀ cfgs (dats m) 0 (V0 m) [hostOps1] c main_v7 = o7 m c := by
  funext i
  obtain ⟨e, rfl⟩ : ∃ e : Fin 8, i = ix1 e := ⟨i 0, eq_ix1 i⟩
  exact fin_main_v7 m c e

/-- The kernel ends with the logs of the sums of exponentials in its fourth result. -/
theorem all_main_v8 (c : Dev nD) : Pipeline.afterTail₀ cfgs (dats m) 0 (V0 m) [hostOps1] c main_v8 = o8 m c := by
  funext i
  obtain ⟨b, s, rfl⟩ : ∃ (b : Fin 4) (s : Fin 8192), i = ix2 b s := ⟨i 0, i 1, eq_ix2 i⟩
  exact fin_main_v8 m c b s

/-- The kernel ends with the logit gradients in its fifth result. -/
theorem all_main_v9 (c : Dev nD) : Pipeline.afterTail₀ cfgs (dats m) 0 (V0 m) [hostOps1] c main_v9 = o9 m c := by
  funext i
  obtain ⟨b, s, e, rfl⟩ : ∃ (b : Fin 4) (s : Fin 8192) (e : Fin 8), i = ix3 b s e := ⟨i 0, i 1, i 2, eq_ix3 i⟩
  exact fin_main_v9 m c b s e

/-- The kernel's run: it ends with the five results above and the arguments unchanged. -/
theorem run (ρ : Dev nD → PrngReg) :
    θ_run (Cert.KernelIdeal.defs (F := Ideal)) (onTc (τ := τ) (Cert.KernelIdeal.main (F := Ideal))) ⟨m, fun _ => 0, ρ⟩ fun r => ∀ c : Dev nD,
      r.2.mem ((c.tc : Thread nD τ).loc main_v5) = o5 m c
      ∧ r.2.mem ((c.tc : Thread nD τ).loc main_v6) = o6 m c
      ∧ r.2.mem ((c.tc : Thread nD τ).loc main_v7) = o7 m c
      ∧ r.2.mem ((c.tc : Thread nD τ).loc main_v8) = o8 m c
      ∧ r.2.mem ((c.tc : Thread nD τ).loc main_v9) = o9 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun _ h c => ⟨
      ((h c).2 main_v5 (Pipeline.mem_restRefs_of main_v5 (by decide) (by decide))).trans (all_main_v5 m c),
      ((h c).2 main_v6 (Pipeline.mem_restRefs_of main_v6 (by decide) (by decide))).trans (all_main_v6 m c),
      ((h c).2 main_v7 (Pipeline.mem_restRefs_of main_v7 (by decide) (by decide))).trans (all_main_v7 m c),
      ((h c).2 main_v8 (Pipeline.mem_restRefs_of main_v8 (by decide) (by decide))).trans (all_main_v8 m c),
      ((h c).2 main_v9 (Pipeline.mem_restRefs_of main_v9 (by decide) (by decide))).trans (all_main_v9 m c),
      ((h c).1 1).trans (((dats m 0 c).arrAt_in 1 rfl _).trans ((A_eq m c 1).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Final

namespace Cert.ReferenceIdeal.Final

open Cert.ReferenceIdeal Cert.ReferenceIdeal.Gen Cert.ReferenceIdeal.Read Cert.ReferenceIdeal.Value Cert.Spec

variable (m : (ℓ : Loc nD τ sig) → Buf (Elt Ideal) ℓ)

/-- The arguments as the reference's memory holds them. -/
def inp (c : Dev nD) : In where
  x b s k := m ((c.tc : Thread nD τ).loc main_arg0) (ix3 b s k)
  scale b s := m ((c.tc : Thread nD τ).loc main_arg1) (ix2 b s)
  w k e := m ((c.tc : Thread nD τ).loc main_arg2) (ix2 k e)
  ids b s k := m ((c.tc : Thread nD τ).loc main_arg3) (ix3 b s k)
  dg b s k := m ((c.tc : Thread nD τ).loc main_arg4) (ix3 b s k)

/-- The arrays the reference reads after its cast, collected, are its arguments: widening changes no value. -/
theorem args_eq (c : Dev nD) : args (m ((c.tc : Thread nD τ).loc main_arg1)) (m ((c.tc : Thread nD τ).loc main_arg2))
    (m ((c.tc : Thread nD τ).loc main_arg3)) (m ((c.tc : Thread nD τ).loc main_arg4)) (wide m c) = inp m c := rfl

/-- The reference ends with the auxiliary losses in its first result. -/
theorem all_main_v31 (c : Dev nD) (b : Fin 4) (s : Fin 8192) : val_main_v31 (F := Ideal) (exitV m c (Proc.devRef .tc main_arg1))
    (exitV m c (Proc.devRef .tc main_arg2)) (exitV m c (Proc.devRef .tc main_arg3)) (exitV m c (Proc.devRef .tc main_v0)) (ix2 b s)
    = (inp m c).auxLoss b s := by
  rw [exit_main_arg1, exit_main_arg2, exit_main_arg3, exit_main_v0, reg_eq, v31_at _ _ _ (m ((c.tc : Thread nD τ).loc main_arg4)), args_eq]

/-- The reference ends with the z-losses in its second result. -/
theorem all_main_v34 (c : Dev nD) (b : Fin 4) (s : Fin 8192) : val_main_v34 (F := Ideal) (exitV m c (Proc.devRef .tc main_arg1))
    (exitV m c (Proc.devRef .tc main_arg2)) (exitV m c (Proc.devRef .tc main_v0)) (ix2 b s)
    = (inp m c).zLoss b s := by
  rw [exit_main_arg1, exit_main_arg2, exit_main_v0, reg_eq,
    v34_at _ _ (m ((c.tc : Thread nD τ).loc main_arg3)) (m ((c.tc : Thread nD τ).loc main_arg4)), args_eq]

/-- The reference ends with the mean probabilities in its third result. -/
theorem all_main_v25 (c : Dev nD) (e : Fin 8) : val_main_v25 (F := Ideal) (exitV m c (Proc.devRef .tc main_arg1))
    (exitV m c (Proc.devRef .tc main_arg2)) (exitV m c (Proc.devRef .tc main_v0)) (ix1 e)
    = (inp m c).meanProb e := by
  rw [exit_main_arg1, exit_main_arg2, exit_main_v0, reg_eq,
    v25_at _ _ (m ((c.tc : Thread nD τ).loc main_arg3)) (m ((c.tc : Thread nD τ).loc main_arg4)), args_eq]

/-- The reference ends with the logs of the sums of exponentials in its fourth result. -/
theorem all_main_v18 (c : Dev nD) (b : Fin 4) (s : Fin 8192) : val_main_v18 (F := Ideal) (exitV m c (Proc.devRef .tc main_arg1))
    (exitV m c (Proc.devRef .tc main_arg2)) (exitV m c (Proc.devRef .tc main_v0)) (ix2 b s)
    = (inp m c).lseOf b s := by
  rw [exit_main_arg1, exit_main_arg2, exit_main_v0, reg_eq,
    v18_at _ _ (m ((c.tc : Thread nD τ).loc main_arg3)) (m ((c.tc : Thread nD τ).loc main_arg4)), args_eq]

/-- The reference ends with the logit gradients in its fifth result. -/
theorem all_main_v56 (c : Dev nD) (b : Fin 4) (s : Fin 8192) (e : Fin 8) : val_main_v56 (F := Ideal) (exitV m c (Proc.devRef .tc main_arg1))
    (exitV m c (Proc.devRef .tc main_arg2)) (exitV m c (Proc.devRef .tc main_arg3)) (exitV m c (Proc.devRef .tc main_arg4))
    (exitV m c (Proc.devRef .tc main_v0)) (ix3 b s e) = (inp m c).grad b s e := by
  rw [exit_main_arg1, exit_main_arg2, exit_main_arg3, exit_main_arg4, exit_main_v0, reg_eq, v56_at, args_eq]

/-- The reference's run: it ends with the five results of the same model and the arguments unchanged. -/
theorem run (ρ : Dev nD → PrngReg) :
    θ_run (Cert.ReferenceIdeal.defs (F := Ideal)) (onTc (τ := τ) (Cert.ReferenceIdeal.main (F := Ideal))) ⟨m, fun _ => 0, ρ⟩ fun r => ∀ c : Dev nD,
      r.2.mem ((c.tc : Thread nD τ).loc main_v31) = (fun i => (inp m c).auxLoss (i 0) (i 1))
      ∧ r.2.mem ((c.tc : Thread nD τ).loc main_v34) = (fun i => (inp m c).zLoss (i 0) (i 1))
      ∧ r.2.mem ((c.tc : Thread nD τ).loc main_v25) = (fun i => (inp m c).meanProb (i 0))
      ∧ r.2.mem ((c.tc : Thread nD τ).loc main_v18) = (fun i => (inp m c).lseOf (i 0) (i 1))
      ∧ r.2.mem ((c.tc : Thread nD τ).loc main_v56) = (fun i => (inp m c).grad (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run _ _ _).mono (fun r h c => ?_) (Cert.ReferenceIdeal.Value.run m ρ)
  obtain ⟨h31, h34, h25, h18, h56, ha⟩ := h c
  refine ⟨?_, ?_, ?_, ?_, ?_, ha⟩
  · rw [h31, val_main_v31_eq]
    funext i
    obtain ⟨b, s, rfl⟩ : ∃ (b : Fin 4) (s : Fin 8192), i = ix2 b s := ⟨i 0, i 1, eq_ix2 i⟩
    exact all_main_v31 m c b s
  · rw [h34, val_main_v34_eq]
    funext i
    obtain ⟨b, s, rfl⟩ : ∃ (b : Fin 4) (s : Fin 8192), i = ix2 b s := ⟨i 0, i 1, eq_ix2 i⟩
    exact all_main_v34 m c b s
  · rw [h25, val_main_v25_eq]
    funext i
    obtain ⟨e, rfl⟩ : ∃ e : Fin 8, i = ix1 e := ⟨i 0, eq_ix1 i⟩
    exact all_main_v25 m c e
  · rw [h18, val_main_v18_eq]
    funext i
    obtain ⟨b, s, rfl⟩ : ∃ (b : Fin 4) (s : Fin 8192), i = ix2 b s := ⟨i 0, i 1, eq_ix2 i⟩
    exact all_main_v18 m c b s
  · rw [h56, val_main_v56_eq]
    funext i
    obtain ⟨b, s, e, rfl⟩ : ∃ (b : Fin 4) (s : Fin 8192) (e : Fin 8), i = ix3 b s e := ⟨i 0, i 1, i 2, eq_ix3 i⟩
    exact all_main_v56 m c b s e

end Cert.ReferenceIdeal.Final

namespace Cert.Both

open Cert.Spec

/-- Memories that agree on the five arguments give both programs the same inputs. -/
theorem inp_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    Cert.ReferenceIdeal.Final.inp m' c = Cert.KernelIdeal.Final.inp m c := by
  unfold Cert.ReferenceIdeal.Final.inp Cert.KernelIdeal.Final.inp
  simp only [h0, h1, h2, h3, h4]

end Cert.Both

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Run
public import proofs.«01_k».proof.Proof.Gen.ReferenceIdeal.Read
public import Idealize.ShloMosaic.Adequacy
public import Idealize.ShloMosaic.Init
public import proofs.«01_k».proof.Proof.Algebraic

@[expose] public section

noncomputable section

namespace Cert.Proof

open Idealize.ShloMosaic Idealize.SL.Sem Cert.Kernel

/-- The kernel and the reference compute the same five results over the extended reals. -/
theorem value : Cert.algebraic_KernelIdeal_ReferenceIdeal (hKernelIdeal := Cert.KernelIdeal.Gen.facts) (hReferenceIdeal := Cert.ReferenceIdeal.Gen.facts) := by
  intro m g m' g' _ hargs
  refine ⟨Cert.KernelIdeal.Final.o5 m, Cert.KernelIdeal.Final.o6 m, Cert.KernelIdeal.Final.o7 m, Cert.KernelIdeal.Final.o8 m,
    Cert.KernelIdeal.Final.o9 m, Cert.KernelIdeal.Final.run m g, ?_⟩
  refine (θ_run _ _ _).mono (fun r h c => ?_) (Cert.ReferenceIdeal.Final.run m' g')
  have e := Cert.Both.inp_eq m m' c (hargs c).1 (hargs c).2.1 (hargs c).2.2.1 (hargs c).2.2.2.1 (hargs c).2.2.2.2
  have hc := h c
  rw [e] at hc
  exact hc

/-- Everything the certificate claims. -/
theorem claim : Cert.Claim := ⟨Cert.Kernel.Gen.facts, Cert.KernelIdeal.Gen.facts, Cert.ReferenceIdeal.Gen.facts, by
  exact ⟨fun m g _ => Cert.Kernel.Gen.frame m g, fun m g _ => Cert.KernelIdeal.Gen.frame m g, fun m g _ => Cert.ReferenceIdeal.Gen.frame m g, trivial, value⟩⟩

end Cert.Proof

end
